-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S16384x26 : Shape := ⟨2, ![16384, 26]⟩
abbrev S1000000x32 : Shape := ⟨2, ![1000000, 32]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S1000000x32 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S1000000x32 : Shape := ⟨2, ![1000000, 32]⟩
abbrev S26x16384 : Shape := ⟨2, ![26, 16384]⟩
abbrev S425984 : Shape := ⟨1, ![425984]⟩
abbrev S250000x128 : Shape := ⟨2, ![250000, 128]⟩
abbrev S26x32x16384 : Shape := ⟨3, ![26, 32, 16384]⟩
abbrev S128 : Shape := ⟨1, ![128]⟩
abbrev S128x128 : Shape := ⟨2, ![128, 128]⟩
abbrev S32x128 : Shape := ⟨2, ![32, 128]⟩
abbrev S_ : Shape := ⟨0, ![]⟩
abbrev S16 : Shape := ⟨1, ![16]⟩
abbrev S1x32x128 : Shape := ⟨3, ![1, 32, 128]⟩
abbrev S1x16 : Shape := ⟨2, ![1, 16]⟩
abbrev S16384x26x32 : Shape := ⟨3, ![16384, 26, 32]⟩

abbrev nBuf : Table → Nat
  | .hbm => 7
  | .local .scVector .vmem => 10
  | _ => 0

abbrev bufTy : (tb : Table) → Fin (nBuf tb) → BufTy
  | .hbm, ⟨0, _⟩ => ⟨S16384x26, .i32⟩
  | .hbm, ⟨1, _⟩ => ⟨S1000000x32, .f32⟩
  | .hbm, ⟨2, _⟩ => ⟨S26x16384, .i32⟩
  | .hbm, ⟨3, _⟩ => ⟨S425984, .i32⟩
  | .hbm, ⟨4, _⟩ => ⟨S250000x128, .f32⟩
  | .hbm, ⟨5, _⟩ => ⟨S26x32x16384, .f32⟩
  | .hbm, ⟨6, _⟩ => ⟨S16384x26x32, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128x128, .f32⟩
  | .local .scVector .vmem, ⟨7, _⟩ => ⟨S128x128, .f32⟩
  | .local .scVector .vmem, ⟨8, _⟩ => ⟨S32x128, .f32⟩
  | .local .scVector .vmem, ⟨9, _⟩ => ⟨S32x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi c0_i32_0 v2
  let c0_i32 : BitVec 32 := 0#32
  let c4_i32 : BitVec 32 := 4#32
  let v3 : BitVec 32 := Scalar.remsi c0_i32 c4_i32
  let c128_i32 : BitVec 32 := 128#32
  let v5 : BitVec 32 := Scalar.muli v3 c128_i32
  let v6 : BitVec 32 := Scalar.addi v4 v5
  ![v6.toNat]
@[reducible] def k0_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k0_off2 (k0_t1 : Fin k0_t1_loop.trips) : Fin 1 → Nat :=
  let c0_i32_2 : BitVec 32 := 0#32
  let c1_i32 : BitVec 32 := 1#32
  let arg19 : BitVec 32 := Scf.iv c0_i32_2 c1_i32 k0_t1
  let c16_i32 : BitVec 32 := 16#32
  let v28 : BitVec 32 := Scalar.muli arg19 c16_i32
  let v29 : Index := Scalar.indexCast v28
  ![v29.toNat]
@[reducible] def k0_t2_loop : Scf.Loop 32 :=
  let c0_i32_7 : BitVec 32 := 0#32
  let c52_i32 : BitVec 32 := 52#32
  let v9 : BitVec 32 := Scalar.addi c0_i32_7 c52_i32
  let c1_i32_8 : BitVec 32 := 1#32
  ⟨c0_i32_7, v9, c1_i32_8⟩
def k0_cond1 (k0_t2 : Fin k0_t2_loop.trips) : BitVec 1 :=
  let c2_i32_22 : BitVec 32 := 2#32
  let c0_i32_7 : BitVec 32 := 0#32
  let c1_i32_8 : BitVec 32 := 1#32
  let arg19 : BitVec 32 := Scf.iv c0_i32_7 c1_i32_8 k0_t2
  let v28 : BitVec 32 := Scalar.muli c2_i32_22 arg19
  let c0_i32_23 : BitVec 32 := 0#32
  let v29 : BitVec 32 := Scalar.addi v28 c0_i32_23
  let c1_i32_26 : BitVec 32 := 1#32
  let v31 : BitVec 32 := Scalar.addi v29 c1_i32_26
  let c104_i32 : BitVec 32 := 104#32
  let v32 : BitVec 1 := Scalar.cmpi .slt v31 c104_i32
  let v33 : BitVec 32 := Scalar.extui v32
  let c0_i32_27 : BitVec 32 := 0#32
  let v34 : BitVec 1 := Scalar.cmpi .ne v33 c0_i32_27
  v34

def k0_off3 (i : grid0.Coords) (k0_t2 : Fin k0_t2_loop.trips) : Fin 1 → Nat :=
  let c2_i32_22 : BitVec 32 := 2#32
  let c0_i32_7 : BitVec 32 := 0#32
  let c1_i32_8 : BitVec 32 := 1#32
  let arg19 : BitVec 32 := Scf.iv c0_i32_7 c1_i32_8 k0_t2
  let v28 : BitVec 32 := Scalar.muli c2_i32_22 arg19
  let c0_i32_23 : BitVec 32 := 0#32
  let v29 : BitVec 32 := Scalar.addi v28 c0_i32_23
  let c1_i32_73 : BitVec 32 := 1#32
  let v106 : BitVec 32 := Scalar.addi v29 c1_i32_73
  let c0_i32_75 : BitVec 32 := 0#32
  let v108 : BitVec 1 := Scalar.cmpi .sgt v106 c0_i32_75
  let v109 : BitVec 32 := Scalar.extui v108
  let c0_i32_76 : BitVec 32 := 0#32
  let v110 : BitVec 1 := Scalar.cmpi .slt v106 c0_i32_76
  let v111 : BitVec 32 := Scalar.extui v110
  let v112 : BitVec 32 := Scalar.subi v109 v111
  let c4_i32_74 : BitVec 32 := 4#32
  let c0_i32_77 : BitVec 32 := 0#32
  let v113 : BitVec 1 := Scalar.cmpi .sgt c4_i32_74 c0_i32_77
  let v114 : BitVec 32 := Scalar.extui v113
  let c0_i32_78 : BitVec 32 := 0#32
  let v115 : BitVec 1 := Scalar.cmpi .slt c4_i32_74 c0_i32_78
  let v116 : BitVec 32 := Scalar.extui v115
  let v117 : BitVec 32 := Scalar.subi v114 v116
  let v118 : BitVec 1 := Scalar.cmpi .ne v112 v117
  let v119 : BitVec 32 := Scalar.remsi v106 c4_i32_74
  let c0_i32_79 : BitVec 32 := 0#32
  let v120 : BitVec 1 := Scalar.cmpi .ne v119 c0_i32_79
  let v121 : BitVec 1 := Scalar.andi v118 v120
  let v107 : BitVec 32 := Scalar.divsi v106 c4_i32_74
  let c1_i32_80 : BitVec 32 := 1#32
  let v122 : BitVec 32 := Scalar.subi v107 c1_i32_80
  let v123 : BitVec 32 := Scalar.select v121 v122 v107
  let c16384_i32_82 : BitVec 32 := 16384#32
  let v125 : BitVec 32 := Scalar.muli v123 c16384_i32_82
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v126 : BitVec 32 := Scalar.addi v125 v2
  let c4_i32_81 : BitVec 32 := 4#32
  let v124 : BitVec 32 := Scalar.remsi v106 c4_i32_81
  let c128_i32_83 : BitVec 32 := 128#32
  let v127 : BitVec 32 := Scalar.muli v124 c128_i32_83
  let v128 : BitVec 32 := Scalar.addi v126 v127
  ![v128.toNat]
@[reducible] def k0_t3_loop : Scf.Loop 32 :=
  let c0_i32_85 : BitVec 32 := 0#32
  let c8_i32_86 : BitVec 32 := 8#32
  let v129 : BitVec 32 := Scalar.addi c0_i32_85 c8_i32_86
  let c1_i32_87 : BitVec 32 := 1#32
  ⟨c0_i32_85, v129, c1_i32_87⟩
def k0_off4 (k0_t3 : Fin k0_t3_loop.trips) : Fin 1 → Nat :=
  let c0_i32_85 : BitVec 32 := 0#32
  let c1_i32_87 : BitVec 32 := 1#32
  let arg20 : BitVec 32 := Scf.iv c0_i32_85 c1_i32_87 k0_t3
  let c16_i32 : BitVec 32 := 16#32
  let v131 : BitVec 32 := Scalar.muli arg20 c16_i32
  let v132 : Index := Scalar.indexCast v131
  ![v132.toNat]
def k0_cond2 (k0_t2 : Fin k0_t2_loop.trips) : BitVec 1 :=
  let c2_i32_22 : BitVec 32 := 2#32
  let c0_i32_7 : BitVec 32 := 0#32
  let c1_i32_8 : BitVec 32 := 1#32
  let arg19 : BitVec 32 := Scf.iv c0_i32_7 c1_i32_8 k0_t2
  let v28 : BitVec 32 := Scalar.muli c2_i32_22 arg19
  let c0_i32_23 : BitVec 32 := 0#32
  let v29 : BitVec 32 := Scalar.addi v28 c0_i32_23
  let c2_i32_28 : BitVec 32 := 2#32
  let v35 : BitVec 1 := Scalar.cmpi .sge v29 c2_i32_28
  let v36 : BitVec 32 := Scalar.extui v35
  let c0_i32_29 : BitVec 32 := 0#32
  let v37 : BitVec 1 := Scalar.cmpi .ne v36 c0_i32_29
  v37

def k0_off5 (i : grid0.Coords) (k0_t2 : Fin k0_t2_loop.trips) : Fin 3 → Nat :=
  let c2_i32_22 : BitVec 32 := 2#32
  let c0_i32_7 : BitVec 32 := 0#32
  let c1_i32_8 : BitVec 32 := 1#32
  let arg19 : BitVec 32 := Scf.iv c0_i32_7 c1_i32_8 k0_t2
  let v28 : BitVec 32 := Scalar.muli c2_i32_22 arg19
  let c0_i32_23 : BitVec 32 := 0#32
  let v29 : BitVec 32 := Scalar.addi v28 c0_i32_23
  let c2_i32_73 : BitVec 32 := 2#32
  let v106 : BitVec 32 := Scalar.subi v29 c2_i32_73
  let c0_i32_75 : BitVec 32 := 0#32
  let v108 : BitVec 1 := Scalar.cmpi .sgt v106 c0_i32_75
  let v109 : BitVec 32 := Scalar.extui v108
  let c0_i32_76 : BitVec 32 := 0#32
  let v110 : BitVec 1 := Scalar.cmpi .slt v106 c0_i32_76
  let v111 : BitVec 32 := Scalar.extui v110
  let v112 : BitVec 32 := Scalar.subi v109 v111
  let c4_i32_74 : BitVec 32 := 4#32
  let c0_i32_77 : BitVec 32 := 0#32
  let v113 : BitVec 1 := Scalar.cmpi .sgt c4_i32_74 c0_i32_77
  let v114 : BitVec 32 := Scalar.extui v113
  let c0_i32_78 : BitVec 32 := 0#32
  let v115 : BitVec 1 := Scalar.cmpi .slt c4_i32_74 c0_i32_78
  let v116 : BitVec 32 := Scalar.extui v115
  let v117 : BitVec 32 := Scalar.subi v114 v116
  let v118 : BitVec 1 := Scalar.cmpi .ne v112 v117
  let v119 : BitVec 32 := Scalar.remsi v106 c4_i32_74
  let c0_i32_79 : BitVec 32 := 0#32
  let v120 : BitVec 1 := Scalar.cmpi .ne v119 c0_i32_79
  let v121 : BitVec 1 := Scalar.andi v118 v120
  let v107 : BitVec 32 := Scalar.divsi v106 c4_i32_74
  let c1_i32_80 : BitVec 32 := 1#32
  let v122 : BitVec 32 := Scalar.subi v107 c1_i32_80
  let v123 : BitVec 32 := Scalar.select v121 v122 v107
  let c0_i32_85 : BitVec 32 := 0#32
  let c16384_i32_82 : BitVec 32 := 16384#32
  let v125 : BitVec 32 := Scalar.muli v123 c16384_i32_82
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v126 : BitVec 32 := Scalar.addi v125 v2
  let c4_i32_81 : BitVec 32 := 4#32
  let v124 : BitVec 32 := Scalar.remsi v106 c4_i32_81
  let c128_i32_83 : BitVec 32 := 128#32
  let v127 : BitVec 32 := Scalar.muli v124 c128_i32_83
  let v128 : BitVec 32 := Scalar.addi v126 v127
  let c16384_i32_84 : BitVec 32 := 16384#32
  let v129 : BitVec 32 := Scalar.muli v123 c16384_i32_84
  let v130 : BitVec 32 := Scalar.subi v128 v129
  ![v123.toNat, 0, v130.toNat]
@[reducible] def k0_t4_loop : Scf.Loop 32 :=
  let c0_i32_31 : BitVec 32 := 0#32
  let c32_i32 : BitVec 32 := 32#32
  let v38 : BitVec 32 := Scalar.addi c0_i32_31 c32_i32
  let c1_i32_32 : BitVec 32 := 1#32
  ⟨c0_i32_31, v38, c1_i32_32⟩
@[reducible] def k0_t5_loop : Scf.Loop 32 :=
  let c0_i32_73 : BitVec 32 := 0#32
  let c8_i32_74 : BitVec 32 := 8#32
  let v106 : BitVec 32 := Scalar.addi c0_i32_73 c8_i32_74
  let c1_i32_75 : BitVec 32 := 1#32
  ⟨c0_i32_73, v106, c1_i32_75⟩
def k0_off6 (k0_t5 : Fin k0_t5_loop.trips) : Fin 1 → Nat :=
  let c0_i32_73 : BitVec 32 := 0#32
  let c1_i32_75 : BitVec 32 := 1#32
  let arg21 : BitVec 32 := Scf.iv c0_i32_73 c1_i32_75 k0_t5
  let c16_i32_77 : BitVec 32 := 16#32
  let v111 : BitVec 32 := Scalar.muli arg21 c16_i32_77
  let v112 : Index := Scalar.indexCast v111
  ![v112.toNat]

def k0_chk1 (v110 : IVec S16 32) (v115 : IVec S16 32) : Prop :=
  (∀ a x, ((![v110, v115] : Fin 2 → IVec S16 32) a x).toNat < S128x128.size a)
theorem k0_idx1_inb : ∀ (v110 : IVec S16 32) (v115 : IVec S16 32) (k0_hw1 : k0_chk1 v110 v115), ∀ a x, ((![v110, v115] : Fin 2 → IVec S16 32) a x).toNat < S128x128.size a := fun v110 v115 k0_hw1 => k0_hw1
def k0_off7 (k0_t4 : Fin k0_t4_loop.trips) (k0_t5 : Fin k0_t5_loop.trips) : Fin 2 → Nat :=
  let c0_i32_31 : BitVec 32 := 0#32
  let c1_i32_32 : BitVec 32 := 1#32
  let arg20 : BitVec 32 := Scf.iv c0_i32_31 c1_i32_32 k0_t4
  let v118 : Index := Scalar.indexCast arg20
  let c0_i32_73 : BitVec 32 := 0#32
  let c1_i32_75 : BitVec 32 := 1#32
  let arg21 : BitVec 32 := Scf.iv c0_i32_73 c1_i32_75 k0_t5
  let c16_i32_78 : BitVec 32 := 16#32
  let v117 : BitVec 32 := Scalar.muli arg21 c16_i32_78
  let v119 : Index := Scalar.indexCast v117
  ![v118.toNat, v119.toNat]
def k0_off8 (i : grid0.Coords) (k0_t2 : Fin k0_t2_loop.trips) (c0_i32_23 : BitVec 32) : Fin 3 → Nat :=
  let c2_i32_22 : BitVec 32 := 2#32
  let c0_i32_7 : BitVec 32 := 0#32
  let c1_i32_8 : BitVec 32 := 1#32
  let arg19 : BitVec 32 := Scf.iv c0_i32_7 c1_i32_8 k0_t2
  let v28 : BitVec 32 := Scalar.muli c2_i32_22 arg19
  let v29 : BitVec 32 := Scalar.addi v28 c0_i32_23
  let c0_i32_35 : BitVec 32 := 0#32
  let v40 : BitVec 1 := Scalar.cmpi .sgt v29 c0_i32_35
  let v41 : BitVec 32 := Scalar.extui v40
  let c0_i32_36 : BitVec 32 := 0#32
  let v42 : BitVec 1 := Scalar.cmpi .slt v29 c0_i32_36
  let v43 : BitVec 32 := Scalar.extui v42
  let v44 : BitVec 32 := Scalar.subi v41 v43
  let c4_i32_34 : BitVec 32 := 4#32
  let c0_i32_37 : BitVec 32 := 0#32
  let v45 : BitVec 1 := Scalar.cmpi .sgt c4_i32_34 c0_i32_37
  let v46 : BitVec 32 := Scalar.extui v45
  let c0_i32_38 : BitVec 32 := 0#32
  let v47 : BitVec 1 := Scalar.cmpi .slt c4_i32_34 c0_i32_38
  let v48 : BitVec 32 := Scalar.extui v47
  let v49 : BitVec 32 := Scalar.subi v46 v48
  let v50 : BitVec 1 := Scalar.cmpi .ne v44 v49
  let v51 : BitVec 32 := Scalar.remsi v29 c4_i32_34
  let c0_i32_39 : BitVec 32 := 0#32
  let v52 : BitVec 1 := Scalar.cmpi .ne v51 c0_i32_39
  let v53 : BitVec 1 := Scalar.andi v50 v52
  let v39 : BitVec 32 := Scalar.divsi v29 c4_i32_34
  let c1_i32_40 : BitVec 32 := 1#32
  let v54 : BitVec 32 := Scalar.subi v39 c1_i32_40
  let v55 : BitVec 32 := Scalar.select v53 v54 v39
  let c0_i32_44 : BitVec 32 := 0#32
  let c16384_i32 : BitVec 32 := 16384#32
  let v57 : BitVec 32 := Scalar.muli v55 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v58 : BitVec 32 := Scalar.addi v57 v2
  let c4_i32_41 : BitVec 32 := 4#32
  let v56 : BitVec 32 := Scalar.remsi v29 c4_i32_41
  let c128_i32_42 : BitVec 32 := 128#32
  let v59 : BitVec 32 := Scalar.muli v56 c128_i32_42
  let v60 : BitVec 32 := Scalar.addi v58 v59
  let c16384_i32_43 : BitVec 32 := 16384#32
  let v61 : BitVec 32 := Scalar.muli v55 c16384_i32_43
  let v62 : BitVec 32 := Scalar.subi v60 v61
  ![v55.toNat, 0, v62.toNat]
def k0_cond3 (k0_t2 : Fin k0_t2_loop.trips) : BitVec 1 :=
  let c2_i32_46 : BitVec 32 := 2#32
  let c0_i32_7 : BitVec 32 := 0#32
  let c1_i32_8 : BitVec 32 := 1#32
  let arg19 : BitVec 32 := Scf.iv c0_i32_7 c1_i32_8 k0_t2
  let v67 : BitVec 32 := Scalar.muli c2_i32_46 arg19
  let c1_i32_47 : BitVec 32 := 1#32
  let v68 : BitVec 32 := Scalar.addi v67 c1_i32_47
  let c1_i32_50 : BitVec 32 := 1#32
  let v70 : BitVec 32 := Scalar.addi v68 c1_i32_50
  let c104_i32_51 : BitVec 32 := 104#32
  let v71 : BitVec 1 := Scalar.cmpi .slt v70 c104_i32_51
  let v72 : BitVec 32 := Scalar.extui v71
  let c0_i32_52 : BitVec 32 := 0#32
  let v73 : BitVec 1 := Scalar.cmpi .ne v72 c0_i32_52
  v73

def k0_off9 (i : grid0.Coords) (k0_t2 : Fin k0_t2_loop.trips) : Fin 1 → Nat :=
  let c2_i32_46 : BitVec 32 := 2#32
  let c0_i32_7 : BitVec 32 := 0#32
  let c1_i32_8 : BitVec 32 := 1#32
  let arg19 : BitVec 32 := Scf.iv c0_i32_7 c1_i32_8 k0_t2
  let v67 : BitVec 32 := Scalar.muli c2_i32_46 arg19
  let c1_i32_47 : BitVec 32 := 1#32
  let v68 : BitVec 32 := Scalar.addi v67 c1_i32_47
  let c1_i32_73 : BitVec 32 := 1#32
  let v106 : BitVec 32 := Scalar.addi v68 c1_i32_73
  let c0_i32_75 : BitVec 32 := 0#32
  let v108 : BitVec 1 := Scalar.cmpi .sgt v106 c0_i32_75
  let v109 : BitVec 32 := Scalar.extui v108
  let c0_i32_76 : BitVec 32 := 0#32
  let v110 : BitVec 1 := Scalar.cmpi .slt v106 c0_i32_76
  let v111 : BitVec 32 := Scalar.extui v110
  let v112 : BitVec 32 := Scalar.subi v109 v111
  let c4_i32_74 : BitVec 32 := 4#32
  let c0_i32_77 : BitVec 32 := 0#32
  let v113 : BitVec 1 := Scalar.cmpi .sgt c4_i32_74 c0_i32_77
  let v114 : BitVec 32 := Scalar.extui v113
  let c0_i32_78 : BitVec 32 := 0#32
  let v115 : BitVec 1 := Scalar.cmpi .slt c4_i32_74 c0_i32_78
  let v116 : BitVec 32 := Scalar.extui v115
  let v117 : BitVec 32 := Scalar.subi v114 v116
  let v118 : BitVec 1 := Scalar.cmpi .ne v112 v117
  let v119 : BitVec 32 := Scalar.remsi v106 c4_i32_74
  let c0_i32_79 : BitVec 32 := 0#32
  let v120 : BitVec 1 := Scalar.cmpi .ne v119 c0_i32_79
  let v121 : BitVec 1 := Scalar.andi v118 v120
  let v107 : BitVec 32 := Scalar.divsi v106 c4_i32_74
  let c1_i32_80 : BitVec 32 := 1#32
  let v122 : BitVec 32 := Scalar.subi v107 c1_i32_80
  let v123 : BitVec 32 := Scalar.select v121 v122 v107
  let c16384_i32_82 : BitVec 32 := 16384#32
  let v125 : BitVec 32 := Scalar.muli v123 c16384_i32_82
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v126 : BitVec 32 := Scalar.addi v125 v2
  let c4_i32_81 : BitVec 32 := 4#32
  let v124 : BitVec 32 := Scalar.remsi v106 c4_i32_81
  let c128_i32_83 : BitVec 32 := 128#32
  let v127 : BitVec 32 := Scalar.muli v124 c128_i32_83
  let v128 : BitVec 32 := Scalar.addi v126 v127
  ![v128.toNat]
@[reducible] def k0_t6_loop : Scf.Loop 32 :=
  let c0_i32_85 : BitVec 32 := 0#32
  let c8_i32_86 : BitVec 32 := 8#32
  let v129 : BitVec 32 := Scalar.addi c0_i32_85 c8_i32_86
  let c1_i32_87 : BitVec 32 := 1#32
  ⟨c0_i32_85, v129, c1_i32_87⟩
def k0_off10 (k0_t6 : Fin k0_t6_loop.trips) : Fin 1 → Nat :=
  let c0_i32_85 : BitVec 32 := 0#32
  let c1_i32_87 : BitVec 32 := 1#32
  let arg20 : BitVec 32 := Scf.iv c0_i32_85 c1_i32_87 k0_t6
  let c16_i32 : BitVec 32 := 16#32
  let v131 : BitVec 32 := Scalar.muli arg20 c16_i32
  let v132 : Index := Scalar.indexCast v131
  ![v132.toNat]
def k0_cond4 (k0_t2 : Fin k0_t2_loop.trips) : BitVec 1 :=
  let c2_i32_46 : BitVec 32 := 2#32
  let c0_i32_7 : BitVec 32 := 0#32
  let c1_i32_8 : BitVec 32 := 1#32
  let arg19 : BitVec 32 := Scf.iv c0_i32_7 c1_i32_8 k0_t2
  let v67 : BitVec 32 := Scalar.muli c2_i32_46 arg19
  let c1_i32_47 : BitVec 32 := 1#32
  let v68 : BitVec 32 := Scalar.addi v67 c1_i32_47
  let c2_i32_53 : BitVec 32 := 2#32
  let v74 : BitVec 1 := Scalar.cmpi .sge v68 c2_i32_53
  let v75 : BitVec 32 := Scalar.extui v74
  let c0_i32_54 : BitVec 32 := 0#32
  let v76 : BitVec 1 := Scalar.cmpi .ne v75 c0_i32_54
  v76

def k0_off11 (i : grid0.Coords) (k0_t2 : Fin k0_t2_loop.trips) : Fin 3 → Nat :=
  let c2_i32_46 : BitVec 32 := 2#32
  let c0_i32_7 : BitVec 32 := 0#32
  let c1_i32_8 : BitVec 32 := 1#32
  let arg19 : BitVec 32 := Scf.iv c0_i32_7 c1_i32_8 k0_t2
  let v67 : BitVec 32 := Scalar.muli c2_i32_46 arg19
  let c1_i32_47 : BitVec 32 := 1#32
  let v68 : BitVec 32 := Scalar.addi v67 c1_i32_47
  let c2_i32_73 : BitVec 32 := 2#32
  let v106 : BitVec 32 := Scalar.subi v68 c2_i32_73
  let c0_i32_75 : BitVec 32 := 0#32
  let v108 : BitVec 1 := Scalar.cmpi .sgt v106 c0_i32_75
  let v109 : BitVec 32 := Scalar.extui v108
  let c0_i32_76 : BitVec 32 := 0#32
  let v110 : BitVec 1 := Scalar.cmpi .slt v106 c0_i32_76
  let v111 : BitVec 32 := Scalar.extui v110
  let v112 : BitVec 32 := Scalar.subi v109 v111
  let c4_i32_74 : BitVec 32 := 4#32
  let c0_i32_77 : BitVec 32 := 0#32
  let v113 : BitVec 1 := Scalar.cmpi .sgt c4_i32_74 c0_i32_77
  let v114 : BitVec 32 := Scalar.extui v113
  let c0_i32_78 : BitVec 32 := 0#32
  let v115 : BitVec 1 := Scalar.cmpi .slt c4_i32_74 c0_i32_78
  let v116 : BitVec 32 := Scalar.extui v115
  let v117 : BitVec 32 := Scalar.subi v114 v116
  let v118 : BitVec 1 := Scalar.cmpi .ne v112 v117
  let v119 : BitVec 32 := Scalar.remsi v106 c4_i32_74
  let c0_i32_79 : BitVec 32 := 0#32
  let v120 : BitVec 1 := Scalar.cmpi .ne v119 c0_i32_79
  let v121 : BitVec 1 := Scalar.andi v118 v120
  let v107 : BitVec 32 := Scalar.divsi v106 c4_i32_74
  let c1_i32_80 : BitVec 32 := 1#32
  let v122 : BitVec 32 := Scalar.subi v107 c1_i32_80
  let v123 : BitVec 32 := Scalar.select v121 v122 v107
  let c0_i32_85 : BitVec 32 := 0#32
  let c16384_i32_82 : BitVec 32 := 16384#32
  let v125 : BitVec 32 := Scalar.muli v123 c16384_i32_82
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v126 : BitVec 32 := Scalar.addi v125 v2
  let c4_i32_81 : BitVec 32 := 4#32
  let v124 : BitVec 32 := Scalar.remsi v106 c4_i32_81
  let c128_i32_83 : BitVec 32 := 128#32
  let v127 : BitVec 32 := Scalar.muli v124 c128_i32_83
  let v128 : BitVec 32 := Scalar.addi v126 v127
  let c16384_i32_84 : BitVec 32 := 16384#32
  let v129 : BitVec 32 := Scalar.muli v123 c16384_i32_84
  let v130 : BitVec 32 := Scalar.subi v128 v129
  ![v123.toNat, 0, v130.toNat]
@[reducible] def k0_t7_loop : Scf.Loop 32 :=
  let c0_i32_56 : BitVec 32 := 0#32
  let c32_i32_57 : BitVec 32 := 32#32
  let v77 : BitVec 32 := Scalar.addi c0_i32_56 c32_i32_57
  let c1_i32_58 : BitVec 32 := 1#32
  ⟨c0_i32_56, v77, c1_i32_58⟩
@[reducible] def k0_t8_loop : Scf.Loop 32 :=
  let c0_i32_73 : BitVec 32 := 0#32
  let c8_i32_74 : BitVec 32 := 8#32
  let v106 : BitVec 32 := Scalar.addi c0_i32_73 c8_i32_74
  let c1_i32_75 : BitVec 32 := 1#32
  ⟨c0_i32_73, v106, c1_i32_75⟩
def k0_off12 (k0_t8 : Fin k0_t8_loop.trips) : Fin 1 → Nat :=
  let c0_i32_73 : BitVec 32 := 0#32
  let c1_i32_75 : BitVec 32 := 1#32
  let arg21 : BitVec 32 := Scf.iv c0_i32_73 c1_i32_75 k0_t8
  let c16_i32_77 : BitVec 32 := 16#32
  let v111 : BitVec 32 := Scalar.muli arg21 c16_i32_77
  let v112 : Index := Scalar.indexCast v111
  ![v112.toNat]

def k0_chk2 (v110 : IVec S16 32) (v115 : IVec S16 32) : Prop :=
  (∀ a x, ((![v110, v115] : Fin 2 → IVec S16 32) a x).toNat < S128x128.size a)
theorem k0_idx2_inb : ∀ (v110 : IVec S16 32) (v115 : IVec S16 32) (k0_hw2 : k0_chk2 v110 v115), ∀ a x, ((![v110, v115] : Fin 2 → IVec S16 32) a x).toNat < S128x128.size a := fun v110 v115 k0_hw2 => k0_hw2
def k0_off13 (k0_t7 : Fin k0_t7_loop.trips) (k0_t8 : Fin k0_t8_loop.trips) : Fin 2 → Nat :=
  let c0_i32_56 : BitVec 32 := 0#32
  let c1_i32_58 : BitVec 32 := 1#32
  let arg20 : BitVec 32 := Scf.iv c0_i32_56 c1_i32_58 k0_t7
  let v118 : Index := Scalar.indexCast arg20
  let c0_i32_73 : BitVec 32 := 0#32
  let c1_i32_75 : BitVec 32 := 1#32
  let arg21 : BitVec 32 := Scf.iv c0_i32_73 c1_i32_75 k0_t8
  let c16_i32_78 : BitVec 32 := 16#32
  let v117 : BitVec 32 := Scalar.muli arg21 c16_i32_78
  let v119 : Index := Scalar.indexCast v117
  ![v118.toNat, v119.toNat]
def k0_off14 (i : grid0.Coords) (c102_i32 : BitVec 32) : Fin 3 → Nat :=
  let c25_i32 : BitVec 32 := 25#32
  let c0_i32_13 : BitVec 32 := 0#32
  let c409600_i32 : BitVec 32 := 409600#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v11 : BitVec 32 := Scalar.addi c409600_i32 v2
  let c4_i32_10 : BitVec 32 := 4#32
  let v10 : BitVec 32 := Scalar.remsi c102_i32 c4_i32_10
  let c128_i32_11 : BitVec 32 := 128#32
  let v12 : BitVec 32 := Scalar.muli v10 c128_i32_11
  let v13 : BitVec 32 := Scalar.addi v11 v12
  let c409600_i32_12 : BitVec 32 := 409600#32
  let v14 : BitVec 32 := Scalar.subi v13 c409600_i32_12
  ![25, 0, v14.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S1000000x32 : Shape := ⟨2, ![1000000, 32]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x32 : Shape := ⟨3, ![16384, 26, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x32, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x32, .f32⟩
  | .hbm, ⟨21, _⟩ => ⟨S16384x26x32, .i1⟩
  | .hbm, ⟨22, _⟩ => ⟨S_, .f32⟩
  | .hbm, ⟨23, _⟩ => ⟨S16384x26x32, .f32⟩
  | .hbm, ⟨24, _⟩ => ⟨S16384x26x32, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The SparseCore program as its launch reads it, and the ghost state of the proof: the handshakes between the
  TensorCore and the SparseCores beside the counters of the tiles' own transfers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
/-- The program's one SparseCore call. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and none of them is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev EH : Emb UH (MT nD τ sig (HIx 1) (Elt F) ℕ UU ℕ) := embL

end Cert.Proof.Lookup

end
-- ==== Proof.Holds.lean ====
/-
  What a tile holds of a buffer, told by what a memref of it READS, and the steps of a tile's program over that:
  loads, stores that fill a buffer piece by piece, an indexed load, a copy waited for at once, a copy and an indirect
  copy left in flight, and the wait for one of these.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Holds

variable (c : Thread nD τ) {sp sp' : Space} {s s' : Shape} {e e' : EltTy}

/-- A share `q` of the memref's elements, which read `G`. -/
def holdsAt (m : Memref sig c.2.kind sp s e) (q : PosShare TreeShare) (G : s.Idx → Elt F e) : sProp 𝕄 :=
  iprop(∃ f : Buf (Elt F) (m.view.loc c), ⌜m.view.read (Elt F) f = G⌝ ∗ (m.view.loc c ↦[m.view.set]{q} f))

/-- The memref's elements outright, which read `G`. -/
abbrev holds (m : Memref sig c.2.kind sp s e) (G : s.Idx → Elt F e) : sProp 𝕄 := holdsAt c m fullShare G

/-- The memref's elements outright, whatever they read. -/
def spare (m : Memref sig c.2.kind sp s e) : sProp 𝕄 := iprop(∃ G : s.Idx → Elt F e, holds c m G)

/-- The memref's elements outright, which read `E` wherever `P` holds. -/
def filled (m : Memref sig c.2.kind sp s e) (P : s.Idx → Prop) (E : s.Idx → Elt F e) : sProp 𝕄 :=
  iprop(∃ G : s.Idx → Elt F e, ⌜∀ y, P y → G y = E y⌝ ∗ holds c m G)

/-- What the thread owes beside the waits it has recorded: those of `W`, and waits for its own transfers. -/
def owed (O : CellTallies nD τ sig (HIx 1)) (W : Waits sig (HIx 1)) : sProp 𝕄 :=
  iprop(∃ W', ⌜∀ p ∈ W', p ∈ W ∨ p.2 = none⌝ ∗ owes c O W')

/-- What a thread owes at some record of waits is owed. -/
theorem owed_intro (O : CellTallies nD τ sig (HIx 1)) (W : Waits sig (HIx 1)) : (owes c O W : sProp 𝕄) ⊢ owed c O W := by
  unfold owed
  iintro HO
  iexists W; isplitr
  · ipureintro; exact fun p hp => .inl hp
  · iexact HO

/-- A buffer with known contents is one with some contents. -/
theorem spare_intro (m : Memref sig c.2.kind sp s e) (G : s.Idx → Elt F e) : holds c m G ⊢ spare c m := by
  unfold spare; iintro H; iexists G; iexact H

/-- Elements at some contents are held reading what the memref reads of them. -/
theorem holdsAt_of (m : Memref sig c.2.kind sp s e) (q : PosShare TreeShare) (f : Buf (Elt F) (m.view.loc c)) :
    (m.view.loc c ↦[m.view.set]{q} f : sProp 𝕄) ⊢ holdsAt c m q (m.view.read (Elt F) f) := by
  unfold holdsAt; iintro H; iexists f; isplitr
  · ipureintro; rfl
  · iexact H

/-- Elements held reading what the memref reads of `g` are those elements at `g`. -/
theorem holdsAt_to (m : Memref sig c.2.kind sp s e) (q : PosShare TreeShare) (g : Buf (Elt F) (m.view.loc c)) :
    holdsAt c m q (m.view.read (Elt F) g) ⊢ (m.view.loc c ↦[m.view.set]{q} g : sProp 𝕄) := by
  unfold holdsAt; iintro ⟨%f, %hf, H⟩
  have h : ∀ i ∈ m.view.set, f i = g i := by
    intro i hi
    obtain ⟨x, -, rfl⟩ := Finset.mem_map.mp hi
    have := congrFun hf x
    rw [View.read_apply, View.read_apply] at this
    exact (cast_inj _).mp this
  iapply (Entails.of_eq (pointsTo_congr h)) $$ H

/-- Nothing asked is held of a spare buffer; -/
theorem filled_of_spare (m : Memref sig c.2.kind sp s e) (P : s.Idx → Prop) (E : s.Idx → Elt F e) (hP : ∀ y, ¬ P y) :
    spare c m ⊢ filled c m P E := by
  unfold spare filled; iintro ⟨%G, H⟩; iexists G; isplitr
  · ipureintro; exact fun y h => absurd h (hP y)
  · iexact H

/-- what is filled everywhere reads `E`; -/
theorem holds_of_filled (m : Memref sig c.2.kind sp s e) (P : s.Idx → Prop) (E : s.Idx → Elt F e) (hP : ∀ y, P y) :
    filled c m P E ⊢ holds c m E := by
  unfold filled; iintro ⟨%G, %h, H⟩
  obtain rfl : G = E := funext fun y => h y (hP y)
  iexact H

/-- filled on more is filled on less. -/
theorem filled_mono (m : Memref sig c.2.kind sp s e) {P P' : s.Idx → Prop} (E : s.Idx → Elt F e) (hP : ∀ y, P' y → P y) :
    filled c m P E ⊢ filled c m P' E := by
  unfold filled; iintro ⟨%G, %h, H⟩; iexists G; isplitr
  · ipureintro; exact fun y hy => h y (hP y hy)
  · iexact H

end Holds

section Steps

variable [FloatOps F]

/-- The program runs safely on thread `c`, and ends in `Q`. -/
abbrev runs (c : Thread nD τ) {α : Type} (p : Prog (TpuEff nD τ sig (Elt F) Λ₀ c.2) α) (Q : α → sProp 𝕄) : sProp 𝕄 :=
  wp frame (wpE (defs₀ (F := F)) 𝒱₀ c none) Set.univ p Q

variable (c : Thread nD τ) {sp sp' : Space} {s s' : Shape} {e e' : EltTy} {α : Type}

/-- A program which has ended. -/
theorem runs_ret (c : Thread nD τ) {α : Type} {a : α} {Q : α → sProp 𝕄} : Q a ⊢ runs c (Prog.ret a) Q := by
  unfold runs; rw [wp_ret]
  iintro H
  imodintro
  iexact H

/-- A check which passes. -/
theorem assume_holds (c : Thread nD τ) {α : Type} {P : Prop} {dec : Decidable P} {k : PLift P → Prog (TpuEff nD τ sig (Elt F) Λ₀ c.2) α}
    {Q : α → sProp 𝕄} (h : P) : runs c (k ⟨h⟩) Q ⊢ runs c (.op (.assume P dec) k) Q := by
  unfold runs; rw [wp_assume_of 𝒱₀ c none Set.univ h]

/-- A load through a rectangle reads what is held there. -/
theorem load_holds {cs : CoreSpace} {m : Memref sig c.2.kind cs s e} {r : Rect s} {hl : m.view.LoadsAt r}
    {k : (r.shape.Idx → Elt F e) → Prog (TpuEff nD τ sig (Elt F) Λ₀ c.2) α} {Q : α → sProp 𝕄} {q : PosShare TreeShare} {G : s.Idx → Elt F e} :
    holdsAt c m q G ⊢ iprop((holdsAt c m q G -∗ runs c (k fun x => G (r.emb x)) Q) -∗ runs c (.op (.load m r hl) k) Q) := by
  unfold holdsAt
  iintro ⟨%f, %hf, H⟩ Hk
  iapply (wp_load_rect 𝒱₀ c none Set.univ (m := m) (r := r) (S := m.view.set) (m.view.set_slice_subset r)) $$ H
  iintro H
  have he : (m.access r).read (Elt F) f = fun x => G (r.emb x) := by subst hf; rfl
  rw [he]
  iapply Hk
  iexists f; isplitr
  · ipureintro; exact hf
  · iexact H

/-- A load whose value is not used. -/
theorem load_filled {cs : CoreSpace} {m : Memref sig c.2.kind cs s e} {r : Rect s} {hl : m.view.LoadsAt r}
    {k : (r.shape.Idx → Elt F e) → Prog (TpuEff nD τ sig (Elt F) Λ₀ c.2) α} {Q : α → sProp 𝕄} {P : s.Idx → Prop} {E : s.Idx → Elt F e} :
    filled c m P E ⊢ iprop((∀ v, filled c m P E -∗ runs c (k v) Q) -∗ runs c (.op (.load m r hl) k) Q) := by
  unfold filled
  iintro ⟨%G, %hG, H⟩ Hk
  iapply (load_holds (F := F) c (m := m) (r := r)) $$ H
  iintro H
  iapply Hk
  iexists G; isplitr
  · ipureintro; exact hG
  · iexact H

/-- A store of `E`'s values through a rectangle: the buffer is filled there too. -/
theorem store_filled {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ c.2) α} {Q : α → sProp 𝕄} {P : s.Idx → Prop} {E : s.Idx → Elt F e} (P' : s.Idx → Prop)
    (hw : ∀ x, w x = E (r.emb x)) (hP : ∀ y, P' y → P y ∨ y ∈ r.set) :
    filled c m P E ⊢ iprop((filled c m P' E -∗ runs c (k ⟨⟩) Q) -∗ runs c (.op (.store m r w Finset.univ hx hm) k) Q) := by
  unfold filled holds holdsAt
  iintro ⟨%G, %hG, %f, %hf, H⟩ Hk
  iapply (wp_store 𝒱₀ c none Set.univ (m := m) (r := r) (Mk := Finset.univ) (S := m.view.set)
    (((m.access r).setOn_subset_set _).trans (m.view.set_slice_subset r))) $$ H
  iintro H
  iapply Hk
  iexists m.view.read (Elt F) ((m.access r).write (Elt F) f w Finset.univ)
  isplitr
  · ipureintro
    intro y hy
    by_cases hr : y ∈ r.set
    · rw [← Rect.map_emb_univ] at hr
      obtain ⟨x, -, rfl⟩ := Finset.mem_map.mp hr
      exact (View.read_slice_write_emb (v := m.view) r f w (Finset.mem_univ x)).trans (hw x)
    · have := View.read_slice_write_of_not_mem (v := m.view) r f w Finset.univ (y := y) (by rw [Rect.map_emb_univ]; exact hr)
      exact this.trans ((congrFun hf y).trans (hG y ((hP y hy).resolve_right hr)))
  · iexists _; isplitr
    swap; · iexact H
    ipureintro; rfl

/-- An indexed load of a tile's memory reads what is held at the indices. -/
theorem loadIdx_holds {base : Memref sig c.2.kind .vmem s e} {idxs : Fin s.rank → IVec s' 32}
    {h : ∀ a x, (idxs a x).toNat < s.size a} {hl : base.view.Loads} {k : Vec F s' e → Prog (TpuEff nD τ sig (Elt F) Λ₀ c.2) α} {Q : α → sProp 𝕄}
    {q : PosShare TreeShare} {G : s.Idx → Elt F e} :
    holdsAt c base q G
      ⊢ iprop((holdsAt c base q G -∗ runs c (k (loadIdx G idxs h)) Q) -∗ runs c (SparseCore.vectorLoadIdx base idxs h hl >>= k) Q) := by
  rw [SparseCore.vectorLoadIdx_bind]
  have hw : (fun x => G ((Rect.whole s).emb x)) = G := funext fun x => congrArg G (by
    funext a; exact Fin.ext (by simp [Rect.emb_apply]))
  iintro H Hk
  iapply (load_holds (F := F) c (m := base) (r := Rect.whole s)) $$ H
  iintro H
  rw [hw]
  iapply Hk; iexact H

/-- Part of what a memref holds, lent out and taken back. -/
theorem holdsAt_part (m : Memref sig c.2.kind sp s e) (r : Rect s) (hr : ∀ a, r.stride a = 1) (q : PosShare TreeShare)
    (G : s.Idx → Elt F e) :
    holdsAt c m q G
      ⊢ iprop(holdsAt c (m.slice r hr) q (fun x => G (r.emb x)) ∗ (holdsAt c (m.slice r hr) q (fun x => G (r.emb x)) -∗ holdsAt c m q G)) := by
  have hsub : (m.slice r hr).view.set ⊆ m.view.set := m.view.set_slice_subset r
  iintro H
  conv in holdsAt c m q G => unfold holdsAt
  icases H with ⟨%f, %hf, H⟩
  subst hf
  ihave H := (pointsTo_split_subset (q := q) (f := f) hsub).1 $$ H
  icases H with ⟨Ha, Hb⟩
  isplitl [Ha]
  · iapply (holdsAt_of (F := F) c (m.slice r hr) q f) $$ Ha
  iintro Ha
  ihave Ha := (show holdsAt c (m.slice r hr) q (fun x => m.view.read (Elt F) f (r.emb x)) ⊢ _ from
    holdsAt_to (F := F) c (m.slice r hr) q f) $$ Ha
  ihave H := (pointsTo_split_subset (q := q) (f := f) hsub).2 $$ [Ha Hb]
  · isplitl [Ha] <;> iassumption
  iapply (holdsAt_of (F := F) c m q f) $$ H

/-- A copy, left in flight: at its wait the destination reads what the source reads, and the source is back. -/
theorem copy_start {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ c.2) α} {Q : α → sProp 𝕄} {q : PosShare TreeShare} {G : s.Idx → Elt F e}
    (hs : 0 < s.numel) :
    iprop(holdsAt c src q G ∗ spare c dst ∗ semVal (c, SemLoc.dma sem) 0)
      ⊢ iprop((Transfers.Flight countersEmb c (.dma sem) (default : HIx 1) dst.view.dmaCredit iprop(holds c dst G ∗ holdsAt c src q G)
            -∗ runs c (k ⟨⟩) Q)
          -∗ runs c (.op (.enqueueDma src (.here dst) (.dma sem) hsrc hdst hsem) k) Q) := by
  unfold spare holds
  iintro ⟨Hs, ⟨%G', Hd⟩, Hv⟩ Hk
  conv in holdsAt c src q G => unfold holdsAt
  conv in holdsAt c dst fullShare G' => unfold holdsAt
  icases Hs with ⟨%f, %hf, Hs⟩
  icases Hd with ⟨%g, -, Hd⟩
  subst hf
  iapply (Transfers.wp_dmaLocal countersEmb 𝒱₀ c none (src := src) (dst := dst) (sm := .dma sem) (default : HIx 1) dst.view.dmaCredit rfl
    (View.dmaCredit_pos _ hs) (Finset.Subset.refl _)) $$ [Hs Hd Hv]
  · isplitl [Hs]; · iexact Hs
    isplitl [Hd]; · iexact Hd
    iexact Hv
  iintro Hf
  iapply Hk
  iapply (Transfers.Flight_mono countersEmb c (?_)) $$ Hf
  iintro ⟨Hd, Hs⟩
  isplitl [Hd]
  · ihave Hd := (holdsAt_of (F := F) c dst fullShare _) $$ Hd
    rw [View.read_write_univ]
    iexact Hd
  · iapply (holdsAt_of (F := F) c src q f) $$ Hs

/-- The wait for a transfer in flight. -/
theorem flight_wait {sem : DmaSem sig} {κ' : Kind} {srcw : Memref sig c.2.kind sp' s' e'} {dstw : Memref sig κ' sp s e}
    {hsrc : srcw.view.WordExact} {hdst : dstw.view.WordExact} {k : PUnit → Prog (TpuEff nD τ sig (Elt F) Λ₀ c.2) α} {Q : α → sProp 𝕄}
    {O : CellTallies nD τ sig (HIx 1)} {W : Waits sig (HIx 1)} {N : ℕ} (hN : dstw.view.dmaCredit = N) {D : sProp 𝕄} :
    iprop(Transfers.MayWaits c (default : HIx 1) O ∗ Transfers.Flight countersEmb c (.dma sem) (default : HIx 1) N D ∗ owed c O W)
      ⊢ iprop((iprop(D ∗ semVal (c, SemLoc.dma sem) 0 ∗ owed c O W) -∗ runs c (k ⟨⟩) Q)
          -∗ runs c (.op (.waitDma2 sem srcw dstw hsrc hdst) k) Q) := by
  conv in owed c O W => unfold owed
  iintro ⟨Hmw, Hf, ⟨%W', %hW, HO⟩⟩ Hk
  iapply (Transfers.wp_waitLocalO countersEmb 𝒱₀ c none (default : HIx 1) hN) $$ [Hf HO Hmw]
  · isplitl [Hf]; · iexact Hf
    isplitl [HO]; · iexact HO
    iapply (Transfers.MayWaits.elim (SemLoc.dma sem)) $$ Hmw
  iintro ⟨HD, Hv, HO⟩
  iapply Hk
  isplitl [HD]; · iexact HD
  isplitl [Hv]; · iexact Hv
  unfold owed
  iexists _; isplitr
  swap; · iexact HO
  ipureintro; intro p hp
  rcases Finset.mem_insert.mp hp with hp | hp
  · exact .inr (hp ▸ rfl)
  · exact hW p hp

/-- A copy of part of a memref, waited for at once. -/
theorem fetch {m : Memref sig c.2.kind sp s e} {r : Rect s} {hr : ∀ a, r.stride a = 1} {dst : Memref sig c.2.kind sp' r.shape e}
    {sem : DmaSem sig} {hsrc : (m.slice r hr).view.WordExact} {hdst hdst' : dst.view.WordExact}
    {hsem : DmaTarget.Typed (nD := nD) sp (.dma sem) (.here dst)} {srcw : Memref sig c.2.kind sp r.shape e} {hsrc' : srcw.view.WordExact}
    {k : PUnit → Prog (TpuEff nD τ sig (Elt F) Λ₀ c.2) α} {Q : α → sProp 𝕄} {q : PosShare TreeShare} {G : s.Idx → Elt F e}
    {O : CellTallies nD τ sig (HIx 1)} {W : Waits sig (HIx 1)} (hs : 0 < r.shape.numel) :
    iprop(Transfers.MayWaits c (default : HIx 1) O ∗ holdsAt c m q G ∗ spare c dst ∗ semVal (c, SemLoc.dma sem) 0 ∗ owed c O W)
      ⊢ iprop((iprop(holds c dst (fun x => G (r.emb x)) ∗ holdsAt c m q G ∗ semVal (c, SemLoc.dma sem) 0 ∗ owed c O W) -∗ runs c (k ⟨⟩) Q)
          -∗ runs c (.op (.enqueueDma (m.slice r hr) (.here dst) (.dma sem) hsrc hdst hsem)
              fun _ => .op (.waitDma2 sem srcw dst hsrc' hdst') k) Q) := by
  iintro ⟨Hmw, Hm, Hd, Hv, HO⟩ Hk
  ihave Hm := (holdsAt_part (F := F) c m r hr q G) $$ Hm
  icases Hm with ⟨Hs, Hback⟩
  iapply (copy_start (F := F) c (src := m.slice r hr) (dst := dst) (sem := sem) hs) $$ [Hs Hd Hv]
  · isplitl [Hs]; · iexact Hs
    isplitl [Hd] <;> iassumption
  iintro Hf
  iapply (flight_wait (F := F) c (sem := sem) rfl) $$ [Hmw Hf HO]
  · isplitl [Hmw]; · iexact Hmw
    isplitl [Hf] <;> iassumption
  iintro ⟨⟨Hd, Hs⟩, Hv, HO⟩
  iapply Hk
  isplitl [Hd]; · iexact Hd
  isplitl [Hback Hs]; · iapply Hback; iexact Hs
  isplitl [Hv] <;> iassumption

/-- An indirect copy, left in flight: at its wait each row of the destination reads the source's row which the list
    names for it, and source and list are back. -/
theorem gather_start {s₀ si : Shape} {a : ℕ} {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ₀ c.2) α} {Q : α → sProp 𝕄} {q : PosShare TreeShare} {G : s₀.Idx → Elt F e}
    {B : si.Idx → Elt F .i32} (N : ℕ)
    (hN : ∑ j, (dst.slice (s.rowRect hg.axis' j) (s.stride_rowRect hg.axis' j)).view.dmaCredit = N)
    (hs : 0 < s.numel) (hin : ∀ x, (B x : BitVec 32).toNat < s₀.size hg.axis) :
    iprop(holdsAt c src q G ∗ spare c dst ∗ holds c offs B ∗ semVal (c, SemLoc.dma sem) 0)
      ⊢ iprop((Transfers.Flight countersEmb c (.dma sem) (default : HIx 1) N
              iprop(holds c dst (SparseCore.gatherPayload hg G (SparseCore.rows B hn hin)) ∗ holdsAt c src q G ∗ holds c offs B)
            -∗ runs c (k ⟨⟩) Q)
          -∗ runs c (SparseCore.enqueueIndirectGather hp src dst hg offs hn sem hsrc he hsp hr >>= k) Q) := by
  unfold spare holds
  iintro ⟨Hs, ⟨%G', Hd⟩, Ho, Hv⟩ Hk
  conv in holdsAt c src q G => unfold holdsAt
  conv in holdsAt c dst fullShare G' => unfold holdsAt
  conv in holdsAt c offs fullShare B => unfold holdsAt
  icases Hs with ⟨%f, %hf, Hs⟩
  icases Hd with ⟨%g, -, Hd⟩
  icases Ho with ⟨%b, %hb, Ho⟩
  subst hf hb
  iapply (SparseCore.wp_indirectGatherLocal countersEmb 𝒱₀ c none (src := src) (dst := dst) (offs := offs) (sem := sem) (default : HIx 1) N hN hs hin)
    $$ [Hs Hd Ho Hv]
  · isplitl [Hs]; · iexact Hs
    isplitl [Hd]; · iexact Hd
    isplitl [Ho]; · iexact Ho
    iexact Hv
  iintro Hf
  iapply Hk
  iapply (Transfers.Flight_mono countersEmb c (?_)) $$ Hf
  iintro ⟨Hd, Hs, Ho⟩
  isplitl [Hd]
  · ihave Hd := (holdsAt_of (F := F) c dst fullShare _) $$ Hd
    rw [View.read_write_univ]
    iexact Hd
  isplitl [Hs]
  · iapply (holdsAt_of (F := F) c src q f) $$ Hs
  · iapply (holdsAt_of (F := F) c offs fullShare b) $$ Ho

end Steps

end Cert.Proof.Lookup

end
-- ==== Proof.Values.lean ====
/-
  What the kernel computes, as plain mathematics: the words of the flat index list, the table rows and lanes they
  name, the block of looked-up entries a tile writes out, and the whole output.
-/
module

public import proofs.«01_k».proof.Proof.Setup
public import Idealize.ShloMosaic.Lib.Pipeline.Value

@[expose] public section

noncomputable section

namespace Cert.Proof.Lookup

open Cert.KernelIdeal Cert.KernelIdeal.Gen
open Idealize.ShloMosaic

variable {F : FTy → Type}

/-- The index with the given coordinates, each taken modulo its axis. -/
def idxAt (s : Shape) (hs : ∀ a, 0 < s.size a) (n : Fin s.rank → ℕ) : s.Idx := fun a => ⟨n a % s.size a, Nat.mod_lt _ (hs a)⟩

/-- The index with an element's own coordinates is that element. -/
theorem idxAt_eq (s : Shape) (hs : ∀ a, 0 < s.size a) (n : Fin s.rank → ℕ) (y : s.Idx) (h : ∀ a, n a = (y a).val) : idxAt s hs n = y := by
  funext a
  exact Fin.ext (by show n a % s.size a = _; rw [h a]; exact Nat.mod_eq_of_lt (y a).isLt)

/-- The list is not empty. -/
theorem size_list_pos : ∀ a, 0 < S425984.size a := by decide
/-- The table is not empty. -/
theorem size_table_pos : ∀ a, 0 < S250000x128.size a := by decide

variable (X : S425984.Idx → BitVec 32) (Wt : S250000x128.Idx → Elt F .f32)

/-- Word `n` of the flat index list. -/
def word (n : ℕ) : BitVec 32 := X (idxAt S425984 size_list_pos ![n])

/-- Entry `l` of row `r` of the table of 128-entry rows. -/
def pick (r l : ℕ) : Elt F .f32 := Wt (idxAt S250000x128 size_table_pos ![r, l])

/-- The entry the kernel looks up for the index `n` and the lane `k` of 32: four embedding rows lie in one table row. -/
def entry (n k : ℕ) : Elt F .f32 := pick Wt (n / 4) (n % 4 * 32 + k)

/-- Where chunk `c` of a tile, whose columns begin at `b`, begins in the flat list. -/
def chunkAt (b c : ℕ) : ℕ := 16384 * (c / 4) + b + 128 * (c % 4)

variable (b c : ℕ)

/-- Chunk `c`'s words. -/
def wordsOf : S128.Idx → BitVec 32 := fun j => word X (chunkAt b c + (j 0).val)
/-- The table rows they name. -/
def rowsOf : S128.Idx → BitVec 32 := fun j => IntOp.shrsi .vector (wordsOf X b c j) 2#32
/-- The lanes at which their entries begin. -/
def lanesOf : S128.Idx → BitVec 32 := fun j => (wordsOf X b c j &&& 3#32) * 32#32
/-- The table rows themselves, one per word. -/
def tableRows : S128x128.Idx → Elt F .f32 := fun y => pick Wt (rowsOf X b c (fun a => (y 0).cast (by fin_cases a; rfl))).toNat (y 1).val
/-- The entries looked up for the chunk, lane by lane. -/
def entriesOf : S32x128.Idx → Elt F .f32 := fun y => entry Wt (word X (chunkAt b c + (y 1).val)).toNat (y 0).val
/-- The whole output. -/
def outOf : S26x32x16384.Idx → Elt F .f32 := fun y => entry Wt (word X (16384 * (y 0).val + (y 2).val)).toNat (y 1).val

/-- Every word of the list names a row of the embedding table. -/
def InRange : Prop := ∀ j, (X j).toNat < 1000000

variable {X}

/-- Every word of a list in range names a row. -/
theorem word_lt (hX : InRange X) (n : ℕ) : (word X n).toNat < 1000000 := hX _

/-- The arithmetic shift of a small word by two is its quotient by four. -/
theorem shift_two (w : BitVec 32) (h : w.toNat < 1000000) : (IntOp.shrsi .vector w 2#32).toNat = w.toNat / 4 := by
  have hm : w.msb = false := BitVec.msb_eq_false_iff_two_mul_lt.mpr (by omega)
  unfold IntOp.shrsi
  rw [if_pos (by decide), BitVec.sshiftRight', BitVec.sshiftRight_eq_of_msb_false hm, BitVec.toNat_ushiftRight]
  show w.toNat >>> 2 = _
  rw [Nat.shiftRight_eq_div_pow]

/-- The low two bits of a word times thirty-two. -/
theorem low_two (w : BitVec 32) : ((w &&& 3#32) * 32#32).toNat = w.toNat % 4 * 32 := by
  rw [BitVec.toNat_mul, BitVec.toNat_and]
  show (w.toNat &&& 3) * 32 % _ = _
  rw [show (3 : ℕ) = 2 ^ 2 - 1 from rfl, Nat.and_two_pow_sub_one_eq_mod]
  omega

/-- The row of 128 lanes is the index over four. -/
theorem rowsOf_toNat (hX : InRange X) (j : S128.Idx) : (rowsOf X b c j).toNat = (wordsOf X b c j).toNat / 4 :=
  shift_two _ (word_lt hX _)

/-- The row of 128 lanes is one of the table's. -/
theorem rowsOf_lt (hX : InRange X) (j : S128.Idx) : (rowsOf X b c j).toNat < 250000 := by
  rw [rowsOf_toNat b c hX]; have : (wordsOf X b c j).toNat < 1000000 := word_lt hX _; omega

/-- The first lane is 32 times the index modulo four. -/
theorem lanesOf_toNat (j : S128.Idx) : (lanesOf X b c j).toNat = (wordsOf X b c j).toNat % 4 * 32 := low_two _

/-- The chunk's entries, read off its table rows at the lanes its words name. -/
theorem entriesOf_eq (hX : InRange X) (y : S32x128.Idx) (z : S128x128.Idx) (j : S128.Idx) (hj : (j 0).val = (y 1).val)
    (hz0 : (z 0).val = (y 1).val) (hz1 : (z 1).val = (lanesOf X b c j).toNat + (y 0).val) :
    tableRows X Wt b c z = entriesOf X Wt b c y := by
  unfold tableRows entriesOf entry
  rw [rowsOf_toNat b c hX, hz1, lanesOf_toNat]
  have h1 : wordsOf X b c (fun a => (z 0).cast (by fin_cases a; rfl)) = word X (chunkAt b c + (y 1).val) := by
    unfold wordsOf; rw [← hz0]; rfl
  have h2 : wordsOf X b c j = word X (chunkAt b c + (y 1).val) := by unfold wordsOf; rw [hj]
  rw [h1, h2]

/-- An indirect copy over the chunk's rows fetches its table rows. -/
theorem gather_rows (hX : InRange X) (hn : S128.numel = S128x128.size gathers_S250000x128_S128x128.axis')
    (hin : ∀ x, (rowsOf X b c x).toNat < S250000x128.size gathers_S250000x128_S128x128.axis) :
    SparseCore.gatherPayload gathers_S250000x128_S128x128 Wt (SparseCore.rows (F := F) (rowsOf X b c) hn hin) = tableRows X Wt b c := by
  funext y
  unfold SparseCore.gatherPayload tableRows pick
  refine congrArg Wt (Eq.symm (idxAt_eq _ _ _ _ fun a => ?_))
  have hk : S128.rowMajor.symm ((y 0).cast hn.symm) = (fun a => (y 0).cast (by fin_cases a; rfl) : S128.Idx) := by
    rw [Equiv.symm_apply_eq]
    refine Fin.ext ?_
    rw [Shape.rowMajor_val_one]
    rfl
  match a with
  | 0 =>
    show (rowsOf X b c _).toNat = _
    rw [← hk]
    rfl
  | 1 => rfl

end Cert.Proof.Lookup

end
-- ==== Proof.Offsets.lean ====
/-
  The numbers the program computes with: where each chunk lies in the flat list and in the output, and which rounds
  take which branch.
-/
module

public import proofs.«01_k».proof.Proof.Values

@[expose] public section

noncomputable section

namespace Cert.Proof.Lookup

open Cert.KernelIdeal Cert.KernelIdeal.Gen
open Idealize.ShloMosaic

/-- An index chunk is split in eight groups of sixteen. -/
theorem trips_split : k0_t1_loop.trips = 8 := by decide
/-- There are 52 rounds of two chunks. -/
theorem trips_rounds : k0_t2_loop.trips = 52 := by decide
/-- A selection goes through 32 lanes. -/
theorem trips_lanes : k0_t4_loop.trips = 32 := by decide
/-- Each lane goes through eight groups of sixteen. -/
theorem trips_groups : k0_t5_loop.trips = 8 := by decide

/-- Every round fetches its odd chunk. -/
theorem cond_fetch_odd : ∀ r : Fin k0_t2_loop.trips, k0_cond1 r = 1#1 := by decide +kernel
/-- Every round but the first waits for the even chunk written the round before. -/
theorem cond_wait_even : ∀ r : Fin k0_t2_loop.trips, k0_cond2 r = 1#1 ↔ 0 < r.val := by decide +kernel
/-- Every round but the last fetches the even chunk of the next. -/
theorem cond_fetch_even : ∀ r : Fin k0_t2_loop.trips, k0_cond3 r = 1#1 ↔ r.val < 51 := by decide +kernel
/-- Every round but the first waits for the odd chunk written the round before. -/
theorem cond_wait_odd : ∀ r : Fin k0_t2_loop.trips, k0_cond4 r = 1#1 ↔ 0 < r.val := by decide +kernel

/-- Where the columns of tile `L` begin. -/
def colAt (L : grid0.Coords) : ℕ := 1024 * (L 1).val + 512 * (L 0).val

/-- The first copy of indices reads chunk 0. -/
theorem off_first (L : grid0.Coords) : k0_off1 L 0 = chunkAt (colAt L) 0 := by
  rw [k0_off1_eq]; simp [chunkAt, colAt]

/-- The copy in the first half of round `r` reads chunk `2 r + 1`. -/
theorem off_odd (L : grid0.Coords) (r : Fin k0_t2_loop.trips) (h : k0_cond1 r = 1#1) : k0_off3 L r 0 = chunkAt (colAt L) (2 * r.val + 1) := by
  have := congrFun (k0_off3_eq L r) 0
  simp [chunkAt, colAt] at this ⊢; omega

/-- The copy in the second half of round `r` reads chunk `2 r + 2`. -/
theorem off_even (L : grid0.Coords) (r : Fin k0_t2_loop.trips) (h : k0_cond3 r = 1#1) : k0_off9 L r 0 = chunkAt (colAt L) (2 * r.val + 2) := by
  have := congrFun (k0_off9_eq L r) 0
  simp [chunkAt, colAt] at this ⊢; omega

set_option maxRecDepth 16384 in
/-- Chunk `2 r + k` goes to row `(2 r + k) / 4` of the output, at column `128 ((2 r + k) % 4)` of the tile's own. -/
theorem off_out : ∀ (L : grid0.Coords) (r : Fin k0_t2_loop.trips) (k : Fin 2) (a : Fin 3),
    k0_off8 L r (BitVec.ofNat 32 k.val) a
      = (![(2 * r.val + k.val) / 4, 0, 1024 * (L 1).val + 512 * (L 0).val + 128 * ((2 * r.val + k.val) % 4)] : Fin 3 → ℕ) a := by
  decide +kernel

end Cert.Proof.Lookup

end
-- ==== Proof.Split.lean ====
/-
  The loop that splits the words of a chunk into table rows and lanes, sixteen at a time.
-/
module

public import proofs.«01_k».proof.Proof.Holds
public import proofs.«01_k».proof.Proof.Offsets

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The vector subcore which runs the tile of coordinates `L`. -/
abbrev tileOf (d : Dev nD) (L : grid0.Coords) : Thread nD τ := V d ((L 0).castLE hcore0) ((L 1).castLE hsub0)

variable (d : Dev nD) (L : grid0.Coords)

/-- One pass of the loop: sixteen words loaded, their rows and their lanes stored. -/
def splitBody (ix rw ln : Memref sig .scVector .vmem S128 .i32) (off : Fin k0_t1_loop.trips → Fin 1 → ℕ)
    (inb : ∀ t a, off t a + S16.size a ≤ S128.size a) :
    Fin k0_t1_loop.trips → Unit → Prog (TpuEff nD τ sig (Elt F) Λ₀ (tileOf d L).2) Unit :=
  fun t _ => do
    let v : Vec F S16 .i32 ← Prog.lift (.load ix (Rect.unit (s := S128) (off t) S16.size (inb t)).toLoadRect (View.loadsAt_vmem h_S16))
    let _ : Vec F S16 .i32 ← Prog.lift (.load rw (Rect.unit (s := S128) (off t) S16.size (inb t)).toLoadRect (View.loadsAt_vmem h_S16))
    Prog.lift (.store rw (Rect.unit (s := S128) (off t) S16.size (inb t)) (k0_pay9 v) Finset.univ (View.stores_vmem_bits_univ h_S16 rfl) (.inl rfl))
    let _ : Vec F S16 .i32 ← Prog.lift (.load ln (Rect.unit (s := S128) (off t) S16.size (inb t)).toLoadRect (View.loadsAt_vmem h_S16))
    Prog.lift (.store ln (Rect.unit (s := S128) (off t) S16.size (inb t)) (k0_pay10 v) Finset.univ (View.stores_vmem_bits_univ h_S16 rfl) (.inl rfl))
    pure ⟨⟩

/-- The first `t` groups of sixteen. -/
def before (t : ℕ) (y : S128.Idx) : Prop := (y 0).val < 16 * t

/-- An element newly counted after group `t` lies in that group. -/
theorem before_next {t : ℕ} {off : Fin 1 → ℕ} (inb : ∀ a, off a + S16.size a ≤ S128.size a) (hoff : off = ![16 * t]) (y : S128.Idx)
    (h : before (t + 1) y) : before t y ∨ y ∈ (Rect.unit (s := S128) off S16.size inb).set := by
  by_cases hb : before t y
  · exact .inl hb
  · refine .inr (Rect.mem_set_unit.mpr fun a => ?_)
    obtain rfl : a = 0 := by fin_cases a; rfl
    subst hoff
    simp only [before] at h hb
    constructor
    · show 16 * t ≤ _; omega
    · show _ < 16 * t + 16; omega

variable (X : S425984.Idx → BitVec 32) (b n : ℕ)

/-- The splitting loop: from the chunk's indices, the rows of the table of 128 lanes and the lanes at which they start. -/
theorem split_loop {ix rw ln : Memref sig .scVector .vmem S128 .i32} {off : Fin k0_t1_loop.trips → Fin 1 → ℕ}
    {inb : ∀ t a, off t a + S16.size a ≤ S128.size a} (hoff : ∀ t, off t = ![16 * t.val]) (hok : k0_t1_loop.OK) {α : Type}
    {k : Unit → Prog (TpuEff nD τ sig (Elt F) Λ₀ (tileOf d L).2) α} {Q : α → sProp 𝕄} :
    iprop(holds (F := F) (tileOf d L) ix (wordsOf X b n) ∗ spare (tileOf d L) rw ∗ spare (tileOf d L) ln)
      ⊢ iprop((iprop(holds (F := F) (tileOf d L) ix (wordsOf X b n) ∗ holds (F := F) (tileOf d L) rw (rowsOf X b n)
              ∗ holds (F := F) (tileOf d L) ln (lanesOf X b n)) -∗ runs (tileOf d L) (k ⟨⟩) Q)
          -∗ runs (tileOf d L) (Scf.Loop.for k0_t1_loop hok ⟨⟩ (splitBody d L ix rw ln off inb) >>= k) Q) := by
  unfold runs
  iintro ⟨Hi, Hr, Hl⟩ Hk
  ihave Hr := (filled_of_spare (F := F) (tileOf d L) rw (before 0) (rowsOf X b n) (fun y => by simp [before])) $$ Hr
  ihave Hl := (filled_of_spare (F := F) (tileOf d L) ln (before 0) (lanesOf X b n) (fun y => by simp [before])) $$ Hl
  sl_for (fun (t : ℕ) (_ : Unit) => iprop(holds (F := F) (tileOf d L) ix (wordsOf X b n)
      ∗ filled (F := F) (tileOf d L) rw (before t) (rowsOf X b n) ∗ filled (F := F) (tileOf d L) ln (before t) (lanesOf X b n))) $$ [Hi Hr Hl]
  case region =>
    intro t acc
    iintro ⟨Hi, Hr, Hl⟩
    unfold split_loop.sl.prog.body_1 splitBody
    simp only [Prog.lift, Prog.bind_op, Prog.bind_ret, Prog.pure_eq_ret]
    iapply (load_holds (F := F) (tileOf d L) (m := ix)) $$ Hi
    iintro Hi
    iapply (load_filled (F := F) (tileOf d L) (m := rw)) $$ Hr
    iintro %_ Hr
    iapply (store_filled (F := F) (tileOf d L) (m := rw) (before (t + 1)) (fun x => ?_) (before_next (inb t) (hoff t))) $$ Hr
    · rfl
    iintro Hr
    iapply (load_filled (F := F) (tileOf d L) (m := ln)) $$ Hl
    iintro %_ Hl
    iapply (store_filled (F := F) (tileOf d L) (m := ln) (before (t + 1)) (fun x => ?_) (before_next (inb t) (hoff t))) $$ Hl
    · rfl
    iintro Hl
    iapply (runs_ret (F := F) (tileOf d L))
    isplitl [Hi]; · iexact Hi
    isplitl [Hr] <;> iassumption
  · isplitl [Hi]; · iexact Hi
    isplitl [Hr] <;> iassumption
  iintro %_ ⟨Hi, Hr, Hl⟩
  iapply Hk
  have htop : ∀ y, before (Scf.trips k0_t1_loop.lb k0_t1_loop.ub k0_t1_loop.st) y := fun y => by
    show (y 0).val < 16 * k0_t1_loop.trips
    rw [trips_split]; exact (y 0).isLt
  isplitl [Hi]; · iexact Hi
  isplitl [Hr]
  · iapply (holds_of_filled (F := F) (tileOf d L) rw _ _ htop) $$ Hr
  · iapply (holds_of_filled (F := F) (tileOf d L) ln _ _ htop) $$ Hl

end Cert.Proof.Lookup

end
-- ==== Proof.Select.lean ====
/-
  The loops that select the looked-up entries from the table rows: for each of the 32 lanes, sixteen words at a time.
-/
module

public import proofs.«01_k».proof.Proof.Split

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- One group: sixteen words' lanes loaded, their entries read out of the table rows and stored. -/
def groupBody (ln : Memref sig .scVector .vmem S128 .i32) (tb : Memref sig .scVector .vmem S128x128 .f32)
    (ot : Memref sig .scVector .vmem S32x128 .f32) (t : Fin k0_t4_loop.trips) :
    Fin k0_t5_loop.trips → Unit → Prog (TpuEff nD τ sig (Elt F) Λ₀ (tileOf d L).2) Unit :=
  fun u _ => do
    have p : IVec S16 32 := k0_pay3 u
    let v : Vec F S16 .i32 ← Prog.lift (.load ln (Rect.unit (s := S128) (k0_off6 u) S16.size (k0_off6_inb u)).toLoadRect (View.loadsAt_vmem h_S16))
    have q : IVec S16 32 := k0_pay4 t v
    have hw : k0_chk1 p q := (← Prog.lift (TpuEff.assume (k0_chk1 p q) (k0_chk1.dec p q))).down
    let w : Vec F S16 .f32 ← SparseCore.vectorLoadIdx tb ![p, q] (k0_idx1_inb p q hw) (View.loads_vmem h_S128x128)
    let _ : Vec F S1x16 .f32 ← Prog.lift (.load ot (Rect.unit (s := S32x128) (k0_off7 t u) S1x16.size (k0_off7_inb t u)).toLoadRect (View.loadsAt_vmem h_S1x16))
    Prog.lift (.store ot (Rect.unit (s := S32x128) (k0_off7 t u) S1x16.size (k0_off7_inb t u)) (shapeCast S1x16 w shapeCasts_S16_S1x16) Finset.univ
      (View.stores_vmem_bits_univ h_S1x16 rfl) (.inl rfl))
    pure ⟨⟩

/-- One lane: its eight groups. -/
def laneBody (ln : Memref sig .scVector .vmem S128 .i32) (tb : Memref sig .scVector .vmem S128x128 .f32)
    (ot : Memref sig .scVector .vmem S32x128 .f32) :
    Fin k0_t4_loop.trips → Unit → Prog (TpuEff nD τ sig (Elt F) Λ₀ (tileOf d L).2) Unit :=
  fun t _ => do
    Scf.Loop.for k0_t5_loop k0_t5_ok ⟨⟩ (groupBody d L ln tb ot t)
    pure ⟨⟩

/-- The first `t` lanes, and the first `u` groups of lane `t`. -/
def beforeAt (t u : ℕ) (y : S32x128.Idx) : Prop := (y 0).val < t ∨ (y 0).val = t ∧ (y 1).val < 16 * u

/-- An element newly counted after group `u` of lane `t` lies in that group. -/
theorem beforeAt_next {t u : ℕ} {off : Fin 2 → ℕ} (inb : ∀ a, off a + S1x16.size a ≤ S32x128.size a) (hoff : off = ![t, 16 * u]) (y : S32x128.Idx)
    (h : beforeAt t (u + 1) y) : beforeAt t u y ∨ y ∈ (Rect.unit (s := S32x128) off S1x16.size inb).set := by
  by_cases hb : beforeAt t u y
  · exact .inl hb
  · refine .inr (Rect.mem_set_unit.mpr fun a => ?_)
    subst hoff
    simp only [beforeAt] at h hb
    match a with
    | 0 => constructor
           · show t ≤ (y 0).val; omega
           · show (y 0).val < t + 1; omega
    | 1 => constructor
           · show 16 * u ≤ (y 1).val; omega
           · show (y 1).val < 16 * u + 16; omega

/-- The column indices of group `u`. -/
theorem columns_toNat (u : Fin k0_t5_loop.trips) (x : S16.Idx) : (k0_pay3 u x).toNat = 16 * u.val + (x 0).val := by
  have hx : (x 0).val < 16 := (x 0).isLt
  have hu : u.val < 8 := Nat.lt_of_lt_of_eq u.isLt trips_groups
  have : k0_pay3 u x = (0#32 + BitVec.ofNat 32 u.val * 1#32) * 16#32 + BitVec.ofNat 32 (x 0).val := by
    unfold k0_pay3
    show _ + iota .scVector S16 32 [0] _ x = _
    rw [iota_single_apply]; rfl
  rw [this]
  simp only [BitVec.toNat_add, BitVec.toNat_mul, BitVec.toNat_ofNat]
  omega

/-- The lane indices of lane `t`, of words which begin at the lanes `v`. -/
theorem lanes_toNat (t : Fin k0_t4_loop.trips) (v : Vec F S16 .i32) (x : S16.Idx) (hv : (v x : BitVec 32).toNat < 128) :
    (k0_pay4 t v x).toNat = (v x : BitVec 32).toNat + t.val := by
  have ht : t.val < 32 := Nat.lt_of_lt_of_eq t.isLt trips_lanes
  have : k0_pay4 t v x = (v x : BitVec 32) + (0#32 + BitVec.ofNat 32 t.val * 1#32) := rfl
  rw [this]
  simp only [BitVec.toNat_add, BitVec.toNat_mul, BitVec.toNat_ofNat]
  omega

variable {X : S425984.Idx → BitVec 32} (Wt : S250000x128.Idx → Elt F .f32) (b n : ℕ)

/-- A row of 32 lanes starts at lane 96 or before. -/
theorem lanesOf_le (j : S128.Idx) : (lanesOf X b n j).toNat ≤ 96 := by rw [lanesOf_toNat]; omega

/-- The check before the indexed load passes. -/
theorem select_check (t : Fin k0_t4_loop.trips) (u : Fin k0_t5_loop.trips) (v : Vec F S16 .i32) (g : S16.Idx → S128.Idx)
    (hv : v = fun x => lanesOf X b n (g x)) : k0_chk1 (k0_pay3 u) (k0_pay4 t v) := by
  intro a x
  have hl : (v x : BitVec 32).toNat ≤ 96 := by subst hv; exact lanesOf_le b n _
  have ht : t.val < 32 := Nat.lt_of_lt_of_eq t.isLt trips_lanes
  have hu : u.val < 8 := Nat.lt_of_lt_of_eq u.isLt trips_groups
  have hx : (x 0).val < 16 := (x 0).isLt
  match a with
  | 0 => show (k0_pay3 u x).toNat < 128; rw [columns_toNat]; omega
  | 1 => show (k0_pay4 t v x).toNat < 128; rw [lanes_toNat t v x (by omega)]; omega

/-- What the indexed load reads is the group's entries of the lane. -/
theorem select_value (hX : InRange X) (t : Fin k0_t4_loop.trips) (u : Fin k0_t5_loop.trips) (inb : ∀ a, k0_off6 u a + S16.size a ≤ S128.size a)
    (inb' : ∀ a, k0_off7 t u a + S1x16.size a ≤ S32x128.size a) (v : Vec F S16 .i32)
    (hv : v = fun x => lanesOf X b n ((Rect.unit (s := S128) (k0_off6 u) S16.size inb).emb x))
    (h : ∀ a x, ((![k0_pay3 u, k0_pay4 t v] : Fin 2 → IVec S16 32) a x).toNat < S128x128.size a) (x : S1x16.Idx) :
    shapeCast S1x16 (loadIdx (F := F) (e := .f32) (tableRows X Wt b n) ![k0_pay3 u, k0_pay4 t v] h) shapeCasts_S16_S1x16 x
      = entriesOf X Wt b n ((Rect.unit (s := S32x128) (k0_off7 t u) S1x16.size inb').emb x) := by
  rw [shapeCast_addUnit_apply ![16]]
  have h6 := congrFun (k0_off6_eq u) 0
  have h7 := congrFun (k0_off7_eq t u)
  have h70 := h7 0
  have h71 := h7 1
  have hx0 : (x 0).val = 0 := by have : (x 0).val < 1 := (x 0).isLt; omega
  simp only [Matrix.cons_val_zero, Matrix.cons_val_one] at h6 h70 h71
  have e0 : (((Rect.unit (s := S32x128) (k0_off7 t u) S1x16.size inb').emb x) 0).val = t.val := by
    show k0_off7 t u 0 + 1 * (x 0).val = _; omega
  have e1 : (((Rect.unit (s := S32x128) (k0_off7 t u) S1x16.size inb').emb x) 1).val = 16 * u.val + (x 1).val := by
    show k0_off7 t u 1 + 1 * (x 1).val = _; omega
  refine entriesOf_eq Wt b n hX _ _ ((Rect.unit (s := S128) (k0_off6 u) S16.size inb).emb fun a => x a.succ) ?_ ?_ ?_
  · rw [e1]; show k0_off6 u 0 + 1 * (x 1).val = _; omega
  · rw [e1]; exact columns_toNat u _
  · rw [e0]
    refine (lanes_toNat t v (fun a => x a.succ) ?_).trans ?_
    · subst hv; exact Nat.lt_of_le_of_lt (lanesOf_le b n _) (by decide)
    · subst hv; rfl

/-- The selection's two loops: the output buffer then holds the chunk's entries. -/
theorem select_loop (hX : InRange X) {ln : Memref sig .scVector .vmem S128 .i32} {tb : Memref sig .scVector .vmem S128x128 .f32}
    {ot : Memref sig .scVector .vmem S32x128 .f32} (hok : k0_t4_loop.OK) {α : Type}
    {k : Unit → Prog (TpuEff nD τ sig (Elt F) Λ₀ (tileOf d L).2) α} {Q : α → sProp 𝕄} :
    iprop(holds (F := F) (tileOf d L) ln (lanesOf X b n) ∗ holds (tileOf d L) tb (tableRows X Wt b n) ∗ spare (tileOf d L) ot)
      ⊢ iprop((iprop(holds (F := F) (tileOf d L) ln (lanesOf X b n) ∗ holds (tileOf d L) tb (tableRows X Wt b n)
              ∗ holds (tileOf d L) ot (entriesOf X Wt b n)) -∗ runs (tileOf d L) (k ⟨⟩) Q)
          -∗ runs (tileOf d L) (Scf.Loop.for k0_t4_loop hok ⟨⟩ (laneBody d L ln tb ot) >>= k) Q) := by
  unfold runs
  iintro ⟨Hl, Ht, Ho⟩ Hk
  ihave Ho := (filled_of_spare (F := F) (tileOf d L) ot (beforeAt 0 0) (entriesOf X Wt b n) (fun y => by simp [beforeAt])) $$ Ho
  sl_for (fun (t : ℕ) (_ : Unit) => iprop(holds (F := F) (tileOf d L) ln (lanesOf X b n) ∗ holds (tileOf d L) tb (tableRows X Wt b n)
      ∗ filled (F := F) (tileOf d L) ot (beforeAt t 0) (entriesOf X Wt b n))) $$ [Hl Ht Ho]
  case region =>
    intro t acc
    iintro ⟨Hl, Ht, Ho⟩
    unfold select_loop.sl.prog.body_1 laneBody
    sl_for (fun (u : ℕ) (_ : Unit) => iprop(holds (F := F) (tileOf d L) ln (lanesOf X b n) ∗ holds (tileOf d L) tb (tableRows X Wt b n)
        ∗ filled (F := F) (tileOf d L) ot (beforeAt t u) (entriesOf X Wt b n))) $$ [Hl Ht Ho]
    case region =>
      intro u acc'
      iintro ⟨Hl, Ht, Ho⟩
      unfold select_loop.sl.prog.body_2 groupBody
      simp only [Prog.lift, Prog.bind_op, Prog.bind_ret, Prog.pure_eq_ret]
      iapply (load_holds (F := F) (tileOf d L) (m := ln)) $$ Hl
      iintro Hl
      iapply (assume_holds (F := F) (tileOf d L) (select_check b n t u _ _ rfl))
      iapply (loadIdx_holds (F := F) (tileOf d L) (base := tb)) $$ Ht
      iintro Ht
      iapply (load_filled (F := F) (tileOf d L) (m := ot)) $$ Ho
      iintro %_ Ho
      iapply (store_filled (F := F) (tileOf d L) (m := ot) (beforeAt t (u + 1)) (fun x => ?_) (beforeAt_next (k0_off7_inb t u) (k0_off7_eq t u))) $$ Ho
      · exact select_value Wt b n hX t u _ _ _ rfl _ x
      iintro Ho
      iapply (runs_ret (F := F) (tileOf d L))
      isplitl [Hl]; · iexact Hl
      isplitl [Ht] <;> iassumption
    · isplitl [Hl]; · iexact Hl
      isplitl [Ht] <;> iassumption
    iintro %_ ⟨Hl, Ht, Ho⟩
    iapply (runs_ret (F := F) (tileOf d L))
    isplitl [Hl]; · iexact Hl
    isplitl [Ht]; · iexact Ht
    iapply (filled_mono (F := F) (tileOf d L) ot _ (fun y hy => ?_)) $$ Ho
    have h8 : Scf.trips k0_t5_loop.lb k0_t5_loop.ub k0_t5_loop.st = 8 := trips_groups
    have := (y 1).isLt
    simp only [beforeAt] at hy ⊢
    rw [h8]
    have : (y 1).val < 128 := (y 1).isLt
    omega
  · isplitl [Hl]; · iexact Hl
    isplitl [Ht] <;> iassumption
  iintro %_ ⟨Hl, Ht, Ho⟩
  iapply Hk
  isplitl [Hl]; · iexact Hl
  isplitl [Ht]; · iexact Ht
  iapply (holds_of_filled (F := F) (tileOf d L) ot _ _ (fun y => ?_)) $$ Ho
  left
  show (y 0).val < k0_t4_loop.trips
  rw [trips_lanes]; exact (y 0).isLt

end Cert.Proof.Lookup

end
-- ==== Proof.Chunk.lean ====
/-
  One chunk of 128 words: its fetch, up to the indirect copy of its table rows left in flight, and the copy of its
  looked-up entries to their block of the output.
-/
module

public import proofs.«01_k».proof.Proof.Select

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The flat index list, the table and the output in HBM, as a tile names them. -/
abbrev xV : Memref sig .scVector .hbm S425984 .i32 := Memref.whole main_v1_scv
abbrev wV : Memref sig .scVector .hbm S250000x128 .f32 := Memref.whole main_v2_scv
abbrev oV : Memref sig .scVector .hbm S26x32x16384 .f32 := Memref.whole main_v3_scv

/-- The table as the indirect copies read it. -/
abbrev wS : Memref sig .scVector .hbm S250000x128 .f32 :=
  wV.slice (Rect.unit (s := S250000x128) ![0, 0] S250000x128.size inb_S250000x128_S250000x128_0_0) (fun _ => rfl)

/-- The block of the output at `off`, as a tile writes it. -/
abbrev blockV (off : Fin 3 → ℕ) (inb : ∀ a, off a + S1x32x128.size a ≤ S26x32x16384.size a) : Memref sig .scVector .hbm S32x128 .f32 :=
  (oV.slice (Rect.unit (s := S26x32x16384) off S1x32x128.size inb) (fun _ => rfl)).squeeze S32x128 squeezes_S1x32x128_S32x128

/-- The elements of chunk `n` of the tile whose columns begin at `b`. -/
def blockSet (b n : ℕ) : Finset S26x32x16384.Idx :=
  Finset.univ.filter fun y => (y 0).val = n / 4 ∧ b + 128 * (n % 4) ≤ (y 2).val ∧ (y 2).val < b + 128 * (n % 4) + 128

/-- A view of the output at chunk `n`'s offset covers the elements of chunk `n`'s block. -/
theorem block_set (b n : ℕ) (off : Fin 3 → ℕ) (inb : ∀ a, off a + S1x32x128.size a ≤ S26x32x16384.size a)
    (hoff : ∀ a, off a = (![n / 4, 0, b + 128 * (n % 4)] : Fin 3 → ℕ) a) : (blockV off inb).view.set = blockSet b n := by
  show (((oV).view.slice (Rect.unit (s := S26x32x16384) off S1x32x128.size inb)).reshape S32x128 _).set = _
  rw [View.set_reshape]
  show ((View.whole main_v3_scv).slice (Rect.unit (s := S26x32x16384) off S1x32x128.size inb)).set = _
  rw [View.set_slice_whole]
  ext y
  rw [Rect.mem_set_unit, blockSet, Finset.mem_filter]
  have h0 := hoff 0
  have h1 := hoff 1
  have h2 := hoff 2
  simp only [Matrix.cons_val_zero, Matrix.cons_val_one, Matrix.cons_val] at h0 h1 h2
  have hy : (y 1).val < 32 := (y 1).isLt
  constructor
  · intro h
    have a0 : off 0 ≤ (y 0).val ∧ (y 0).val < off 0 + 1 := h 0
    have a2 : off 2 ≤ (y 2).val ∧ (y 2).val < off 2 + 128 := h 2
    refine ⟨Finset.mem_univ _, by omega, by omega, by omega⟩
  · rintro ⟨-, h⟩ a
    match a with
    | 0 => show off 0 ≤ (y 0).val ∧ (y 0).val < off 0 + 1; omega
    | 1 => show off 1 ≤ (y 1).val ∧ (y 1).val < off 1 + 32; omega
    | 2 => show off 2 ≤ (y 2).val ∧ (y 2).val < off 2 + 128; omega

variable (X : S425984.Idx → BitVec 32) (Wt : S250000x128.Idx → Elt F .f32) (b n : ℕ)

/-- The whole output's values on the block of chunk `n` are the chunk's looked-up entries. -/
theorem block_read (off : Fin 3 → ℕ) (inb : ∀ a, off a + S1x32x128.size a ≤ S26x32x16384.size a)
    (hoff : ∀ a, off a = (![n / 4, 0, b + 128 * (n % 4)] : Fin 3 → ℕ) a) :
    (blockV off inb).view.read (Elt F) (outOf X Wt) = entriesOf X Wt b n := by
  funext y
  have h0 := hoff 0
  have h1 := hoff 1
  have h2 := hoff 2
  simp only [Matrix.cons_val_zero, Matrix.cons_val_one, Matrix.cons_val] at h0 h1 h2
  rw [Memref.read_squeeze_slice oV _ _ _ (show S1x32x128.ShapeCasts S32x128 by decide)]
  refine (shapeCast_dropUnit_apply ![32, 128] _ _ y).trans ?_
  show outOf X Wt ((Rect.unit (s := S26x32x16384) off S1x32x128.size inb).emb (Fin.cons ⟨0, Nat.one_pos⟩ y)) = _
  have e0 : ((Rect.unit (s := S26x32x16384) off S1x32x128.size inb).emb (Fin.cons ⟨0, Nat.one_pos⟩ y) 0).val = n / 4 := by
    show off 0 + 1 * 0 = _; omega
  have e1 : ((Rect.unit (s := S26x32x16384) off S1x32x128.size inb).emb (Fin.cons ⟨0, Nat.one_pos⟩ y) 1).val = (y 0).val := by
    show off 1 + 1 * (y 0).val = _; omega
  have e2 : ((Rect.unit (s := S26x32x16384) off S1x32x128.size inb).emb (Fin.cons ⟨0, Nat.one_pos⟩ y) 2).val = b + 128 * (n % 4) + (y 1).val := by
    show off 2 + 1 * (y 1).val = _; omega
  unfold outOf entriesOf chunkAt
  rw [e0, e1, e2, ← Nat.add_assoc, ← Nat.add_assoc]

/-- A block's copy credits the same wherever the block lies. -/
theorem block_credit (off off' : Fin 3 → ℕ) (inb : ∀ a, off a + S1x32x128.size a ≤ S26x32x16384.size a)
    (inb' : ∀ a, off' a + S1x32x128.size a ≤ S26x32x16384.size a) : (blockV off inb).view.dmaCredit = (blockV off' inb').view.dmaCredit := rfl

/-- The block at the origin lies in the output. -/
theorem origin_inb : ∀ a, (![0, 0, 0] : Fin 3 → ℕ) a + S1x32x128.size a ≤ S26x32x16384.size a := by decide

/-- What a copy to a block of the output credits its semaphore. -/
def blockCredit : ℕ := (blockV ![0, 0, 0] origin_inb).view.dmaCredit

variable (d : Dev nD) (L : grid0.Coords)

/-- The elements of the output's block of chunk `n`, at the contents `f`. -/
def block (n : ℕ) (f : S26x32x16384.Idx → Elt F .f32) : sProp 𝕄 :=
  (oV).view.loc (tileOf d L) ↦[blockSet (colAt L) n]{fullShare} f

/-- A block held as part of the output may be written through its view. -/
theorem block_take {off : Fin 3 → ℕ} (inb : ∀ a, off a + S1x32x128.size a ≤ S26x32x16384.size a)
    (hoff : ∀ a, off a = (![n / 4, 0, colAt L + 128 * (n % 4)] : Fin 3 → ℕ) a) (f : S26x32x16384.Idx → Elt F .f32) :
    block d L n f ⊢ spare (F := F) (tileOf d L) (blockV off inb) := by
  unfold block
  rw [← block_set (colAt L) n off inb hoff]
  exact BI.Entails.trans (holdsAt_of (F := F) (tileOf d L) (blockV off inb) fullShare f) (spare_intro (F := F) _ _ _)

/-- A block whose view holds the chunk's entries is the chunk's part of the finished output. -/
theorem block_give {off : Fin 3 → ℕ} (inb : ∀ a, off a + S1x32x128.size a ≤ S26x32x16384.size a)
    (hoff : ∀ a, off a = (![n / 4, 0, colAt L + 128 * (n % 4)] : Fin 3 → ℕ) a) :
    holds (F := F) (tileOf d L) (blockV off inb) (entriesOf X Wt (colAt L) n) ⊢ block d L n (outOf X Wt) := by
  rw [← block_read X Wt (colAt L) n off inb hoff]
  unfold block
  rw [← block_set (colAt L) n off inb hoff]
  exact holdsAt_to (F := F) (tileOf d L) (blockV off inb) fullShare (outOf X Wt)

/-- A share of a memref's elements in two halves, -/
theorem holdsAt_halves (c : Thread nD τ) {sp : Space} {s : Shape} {e : EltTy} (m : Memref sig c.2.kind sp s e) (q : PosShare TreeShare) (G : s.Idx → Elt F e) :
    holdsAt c m q G ⊢ iprop(holdsAt c m q.left G ∗ holdsAt c m q.right G) := by
  iintro H
  conv in holdsAt c m q G => unfold holdsAt
  icases H with ⟨%f, %hf, H⟩
  subst hf
  ihave H := (pointsTo_share (PosShare.mem_left_op_right q)).1 $$ H
  icases H with ⟨Ha, Hb⟩
  isplitl [Ha]
  · iapply (holdsAt_of (F := F) c m q.left f) $$ Ha
  · iapply (holdsAt_of (F := F) c m q.right f) $$ Hb

/-- and the two halves together again. -/
theorem holdsAt_join (c : Thread nD τ) {sp : Space} {s : Shape} {e : EltTy} (m : Memref sig c.2.kind sp s e) (q : PosShare TreeShare) (G : s.Idx → Elt F e) :
    iprop(holdsAt c m q.left G ∗ holdsAt c m q.right G) ⊢ holdsAt c m q G := by
  iintro ⟨Ha, Hb⟩
  conv in holdsAt c m q.left G => unfold holdsAt
  icases Ha with ⟨%f, %hf, Ha⟩
  subst hf
  ihave Hb := (holdsAt_to (F := F) c m q.right f) $$ Hb
  ihave H := (pointsTo_share (PosShare.mem_left_op_right q)).2 $$ [Ha Hb]
  · isplitl [Ha] <;> iassumption
  iapply (holdsAt_of (F := F) c m q f) $$ H

/-- What a program runs first, and the rest from what that leaves. -/
theorem runs_bind (c : Thread nD τ) {β α : Type} {p : Prog (TpuEff nD τ sig (Elt F) Λ₀ c.2) β} {k : β → Prog (TpuEff nD τ sig (Elt F) Λ₀ c.2) α}
    {P R : sProp 𝕄} {Q : α → sProp 𝕄} (h : P ⊢ runs c p fun _ => R) :
    P ⊢ iprop((∀ a, R -∗ runs c (k a) Q) -∗ runs c (p >>= k) Q) := by
  unfold runs
  rw [wp_bind]
  iintro HP HK
  ihave HP := h $$ HP
  iapply (wp_wand_r frame (wpE (defs₀ (F := F)) 𝒱₀ c none) (Q := fun _ => R))
  isplitl [HP]; · iexact HP
  iexact HK

section Stage

variable (rw ln : Memref sig .scVector .vmem S128 .i32) (tb : Memref sig .scVector .vmem S128x128 .f32) (sem : DmaSem sig) (q : PosShare TreeShare)

/-- A chunk's buffers at rest, with a share of the table. -/
def idle : sProp 𝕄 :=
  iprop(spare (F := F) (tileOf d L) tb ∗ holdsAt (tileOf d L) wS q Wt ∗ spare (F := F) (tileOf d L) rw ∗ semVal (tileOf d L, SemLoc.dma sem) 0
    ∗ spare (F := F) (tileOf d L) ln)

/-- Chunk `n` under way: its lanes at hand, the indirect copy of its table rows in flight. -/
def underway (n : ℕ) : sProp 𝕄 :=
  iprop(Transfers.Flight countersEmb (tileOf d L) (.dma sem) (default : HIx 1) tb.view.dmaCredit
      iprop(holds (tileOf d L) tb (tableRows X Wt (colAt L) n) ∗ holdsAt (tileOf d L) wS q Wt ∗ holds (F := F) (tileOf d L) rw (rowsOf X (colAt L) n))
    ∗ holds (F := F) (tileOf d L) ln (lanesOf X (colAt L) n))

/-- Chunk `n` fetched: its lanes and table rows at hand. -/
def fetched (n : ℕ) : sProp 𝕄 :=
  iprop((holds (tileOf d L) tb (tableRows X Wt (colAt L) n) ∗ holdsAt (tileOf d L) wS q Wt ∗ holds (F := F) (tileOf d L) rw (rowsOf X (colAt L) n))
    ∗ semVal (tileOf d L, SemLoc.dma sem) 0 ∗ holds (F := F) (tileOf d L) ln (lanesOf X (colAt L) n))

/-- Buffers with a fetched chunk may be used anew. -/
theorem fetched_idle (n : ℕ) : fetched X Wt d L rw ln tb sem q n ⊢ idle Wt d L rw ln tb sem q := by
  unfold fetched idle
  iintro ⟨⟨Ht, Hw, Hr⟩, Hs, Hl⟩
  isplitl [Ht]; · iapply (spare_intro (F := F) (tileOf d L) tb _) $$ Ht
  isplitl [Hw]; · iexact Hw
  isplitl [Hr]; · iapply (spare_intro (F := F) (tileOf d L) rw _) $$ Hr
  isplitl [Hs]; · iexact Hs
  iapply (spare_intro (F := F) (tileOf d L) ln _) $$ Hl

variable (O : CellTallies nD τ sig (HIx 1)) (W : Waits sig (HIx 1))

/-- The wait for a chunk's table rows. -/
theorem wait_rows {hsrc : wS.view.WordExact} {hdst : tb.view.WordExact} {α : Type} {k : PUnit → Prog (TpuEff nD τ sig (Elt F) Λ₀ (tileOf d L).2) α} {Q : α → sProp 𝕄} (n : ℕ) :
    iprop(Transfers.MayWaits (tileOf d L) (default : HIx 1) O ∗ underway X Wt d L rw ln tb sem q n ∗ owed (tileOf d L) O W)
      ⊢ iprop((iprop(fetched X Wt d L rw ln tb sem q n ∗ owed (tileOf d L) O W) -∗ runs (tileOf d L) (k ⟨⟩) Q)
          -∗ runs (tileOf d L) (SparseCore.waitIndirectGather sem wS tb hsrc hdst >>= k) Q) := by
  unfold underway fetched
  iintro ⟨Hmw, ⟨Hf, Hl⟩, HO⟩ Hk
  iapply (flight_wait (F := F) (tileOf d L) (sem := sem) rfl) $$ [Hmw Hf HO]
  · isplitl [Hmw]; · iexact Hmw
    isplitl [Hf] <;> iassumption
  iintro ⟨HD, Hv, HO⟩
  iapply Hk
  isplitl [HD Hv Hl]
  · isplitl [HD]; · iexact HD
    isplitl [Hv] <;> iassumption
  iexact HO

variable {X}

/-- The indirect copy of a chunk's table rows, issued. -/
theorem start_rows (hX : InRange X) (hN : ∑ j, (tb.slice (S128x128.rowRect gathers_S250000x128_S128x128.axis' j)
      (S128x128.stride_rowRect gathers_S250000x128_S128x128.axis' j)).view.dmaCredit = tb.view.dmaCredit)
    {hn : S128.numel = S128x128.size gathers_S250000x128_S128x128.axis'}
    {hp : (tileOf d L).2.kind = .scVector} {hsrc : wS.view.WordExact} {he : EltTy.f32.bits = 32} {hsp : Space.hbm = .hbm ∨ Space.hbm = .shared} {hr : S250000x128.StreamRows 0}
    {α : Type} {k : PUnit → Prog (TpuEff nD τ sig (Elt F) Λ₀ (tileOf d L).2) α} {Q : α → sProp 𝕄} (n : ℕ) :
    iprop(spare (F := F) (tileOf d L) tb ∗ holdsAt (tileOf d L) wS q Wt ∗ holds (F := F) (tileOf d L) rw (rowsOf X (colAt L) n)
        ∗ semVal (tileOf d L, SemLoc.dma sem) 0 ∗ holds (F := F) (tileOf d L) ln (lanesOf X (colAt L) n))
      ⊢ iprop((underway X Wt d L rw ln tb sem q n -∗ runs (tileOf d L) (k ⟨⟩) Q)
          -∗ runs (tileOf d L) (SparseCore.enqueueIndirectGather hp wS tb gathers_S250000x128_S128x128 rw hn sem hsrc he hsp hr >>= k) Q) := by
  unfold underway
  iintro ⟨Ht, Hw, Hr, Hs, Hl⟩ Hk
  have hin : ∀ x, (rowsOf X (colAt L) n x).toNat < S250000x128.size gathers_S250000x128_S128x128.axis := fun x => rowsOf_lt _ _ hX x
  iapply (gather_start (F := F) (tileOf d L) (src := wS) (dst := tb) (offs := rw) (hg := gathers_S250000x128_S128x128) (sem := sem)
    tb.view.dmaCredit hN (by decide) hin) $$ [Ht Hw Hr Hs]
  · isplitl [Hw]; · iexact Hw
    isplitl [Ht]; · iexact Ht
    isplitl [Hr] <;> iassumption
  iintro Hf
  rw [gather_rows Wt (colAt L) n hX]
  iapply Hk
  isplitl [Hf] <;> iassumption

/-- The words a chunk's copy brings in. -/
theorem words_eq (off : Fin 1 → ℕ) (inb : ∀ a, off a + S128.size a ≤ S425984.size a) (hoff : off 0 = chunkAt (colAt L) n) :
    (fun x => X ((Rect.unit (s := S425984) off S128.size inb).emb x)) = wordsOf X (colAt L) n := by
  funext x
  unfold wordsOf word
  refine congrArg X (Eq.symm (idxAt_eq _ _ _ _ fun a => ?_))
  obtain rfl : a = 0 := by fin_cases a; rfl
  show chunkAt (colAt L) n + (x 0).val = off 0 + 1 * (x 0).val
  omega

/-- A chunk's fetch: the copy of its words, the splitting into rows and lanes, and the indirect copy issued. -/
theorem fetch_run (hX : InRange X) (hN : ∑ j, (tb.slice (S128x128.rowRect gathers_S250000x128_S128x128.axis' j)
      (S128x128.stride_rowRect gathers_S250000x128_S128x128.axis' j)).view.dmaCredit = tb.view.dmaCredit)
    (ix : Memref sig .scVector .vmem S128 .i32) (isem : DmaSem sig) (off : Fin 1 → ℕ) (inb : ∀ a, off a + S128.size a ≤ S425984.size a)
    (soff : Fin k0_t1_loop.trips → Fin 1 → ℕ) (sinb : ∀ t a, soff t a + S16.size a ≤ S128.size a) (hsoff : ∀ t, soff t = ![16 * t.val])
    (n : ℕ) (hoff : off 0 = chunkAt (colAt L) n) (qx : PosShare TreeShare)
    {h1 : (xV.slice (Rect.unit (s := S425984) off S128.size inb) (fun _ => rfl)).view.WordExact} {h2 : ix.view.WordExact}
    {h3 : DmaTarget.Typed (nD := nD) (τ := τ) (p := (tileOf d L).2) (.hbm : Space) (SemLoc.dma isem) (.here ix)}
    {hn : S128.numel = S128x128.size gathers_S250000x128_S128x128.axis'}
    {hp : (tileOf d L).2.kind = .scVector} {hsrc : wS.view.WordExact} {he : EltTy.f32.bits = 32} {hsp : Space.hbm = .hbm ∨ Space.hbm = .shared} {hr : S250000x128.StreamRows 0}
    {hok : k0_t1_loop.OK}
    {α : Type} {k : PUnit → Prog (TpuEff nD τ sig (Elt F) Λ₀ (tileOf d L).2) α} {Q : α → sProp 𝕄} :
    iprop(Transfers.MayWaits (tileOf d L) (default : HIx 1) O ∗ holdsAt (F := F) (tileOf d L) xV qx X ∗ spare (F := F) (tileOf d L) ix
        ∗ semVal (tileOf d L, SemLoc.dma isem) 0 ∗ idle Wt d L rw ln tb sem q ∗ owed (tileOf d L) O W)
      ⊢ iprop((iprop(holdsAt (F := F) (tileOf d L) xV qx X ∗ spare (F := F) (tileOf d L) ix
            ∗ semVal (tileOf d L, SemLoc.dma isem) 0 ∗ underway X Wt d L rw ln tb sem q n ∗ owed (tileOf d L) O W) -∗ runs (tileOf d L) (k ⟨⟩) Q)
        -∗ runs (tileOf d L) (.op (.enqueueDma (xV.slice (Rect.unit (s := S425984) off S128.size inb) (fun _ => rfl)) (.here ix) (.dma isem) h1 h2 h3) fun _ =>
            .op (.waitDma2 isem (xV.slice (Rect.unit (s := S425984) off S128.size inb) (fun _ => rfl)) ix h1 h2) fun _ =>
            Scf.Loop.for k0_t1_loop hok ⟨⟩ (splitBody d L ix rw ln soff sinb) >>= fun _ =>
            SparseCore.enqueueIndirectGather hp wS tb gathers_S250000x128_S128x128 rw hn sem hsrc he hsp hr >>= k) Q) := by
  unfold idle
  iintro ⟨Hmw, Hx, Hi, Hv, ⟨Ht, Hw, Hr, Hs, Hl⟩, HO⟩ Hk
  iapply (fetch (F := F) (tileOf d L) (m := xV) (dst := ix) (sem := isem) (show 0 < S128.numel by decide)) $$ [Hmw Hx Hi Hv HO]
  · isplitl [Hmw]; · iexact Hmw
    isplitl [Hx]; · iexact Hx
    isplitl [Hi]; · iexact Hi
    isplitl [Hv] <;> iassumption
  iintro ⟨Hi, Hx, Hv, HO⟩
  rw [words_eq n L off inb hoff]
  iapply (split_loop (F := F) d L X (colAt L) n hsoff) $$ [Hi Hr Hl]
  · isplitl [Hi]; · iexact Hi
    isplitl [Hr] <;> iassumption
  iintro ⟨Hi, Hr, Hl⟩
  iapply (start_rows (F := F) Wt d L rw ln tb sem q hX hN n) $$ [Ht Hw Hr Hs Hl]
  · isplitl [Ht]; · iexact Ht
    isplitl [Hw]; · iexact Hw
    isplitl [Hr]; · iexact Hr
    isplitl [Hs] <;> iassumption
  iintro Hu
  iapply Hk
  isplitl [Hx]; · iexact Hx
  isplitl [Hi]; · iapply (spare_intro (F := F) (tileOf d L) ix _) $$ Hi
  isplitl [Hv]; · iexact Hv
  isplitl [Hu] <;> iassumption

/-- A fetched chunk's selection. -/
theorem select_run (hX : InRange X) {ot : Memref sig .scVector .vmem S32x128 .f32} (n : ℕ) {hok : k0_t4_loop.OK}
    {α : Type} {k : Unit → Prog (TpuEff nD τ sig (Elt F) Λ₀ (tileOf d L).2) α} {Q : α → sProp 𝕄} :
    iprop(fetched X Wt d L rw ln tb sem q n ∗ spare (F := F) (tileOf d L) ot)
      ⊢ iprop((iprop(idle Wt d L rw ln tb sem q ∗ holds (tileOf d L) ot (entriesOf X Wt (colAt L) n)) -∗ runs (tileOf d L) (k ⟨⟩) Q)
        -∗ runs (tileOf d L) (Scf.Loop.for k0_t4_loop hok ⟨⟩ (laneBody d L ln tb ot) >>= k) Q) := by
  iintro ⟨Hf, Ho⟩ Hk
  conv in fetched X Wt d L rw ln tb sem q n => unfold fetched
  icases Hf with ⟨⟨Ht, Hw, Hr⟩, Hs, Hl⟩
  iapply (select_loop (F := F) d L Wt (colAt L) n hX (ln := ln) (tb := tb) (ot := ot) hok) $$ [Hl Ht Ho]
  · isplitl [Hl]; · iexact Hl
    isplitl [Ht] <;> iassumption
  iintro ⟨Hl, Ht, Ho⟩
  iapply Hk
  isplitl [Ht Hw Hr Hs Hl]
  · iapply (fetched_idle X Wt d L rw ln tb sem q n)
    unfold fetched
    isplitl [Ht Hw Hr]
    · isplitl [Ht]; · iexact Ht
      isplitl [Hw] <;> iassumption
    isplitl [Hs] <;> iassumption
  iexact Ho

end Stage

section Out

variable (ot : Memref sig .scVector .vmem S32x128 .f32) (sem : DmaSem sig) (O : CellTallies nD τ sig (HIx 1)) (W : Waits sig (HIx 1))

/-- Chunk `n`'s copy to its block of the output, in flight. -/
def leaving (n : ℕ) : sProp 𝕄 :=
  Transfers.Flight countersEmb (tileOf d L) (.dma sem) (default : HIx 1) blockCredit
    iprop(block d L n (outOf X Wt) ∗ spare (F := F) (tileOf d L) ot)

/-- Starting the write of chunk `n`: the filled buffer and the block are given up until the wait. -/
theorem start_out {off : Fin 3 → ℕ} {inb : ∀ a, off a + S1x32x128.size a ≤ S26x32x16384.size a}
    (hoff : ∀ a, off a = (![n / 4, 0, colAt L + 128 * (n % 4)] : Fin 3 → ℕ) a) (f : S26x32x16384.Idx → Elt F .f32)
    {hsrc : ot.view.WordExact} {hdst : (blockV off inb).view.WordExact} {hsem : DmaTarget.Typed (nD := nD) (τ := τ) (p := (tileOf d L).2) (.vmem : Space) (SemLoc.dma sem) (.here (blockV off inb))}
    {α : Type} {k : PUnit → Prog (TpuEff nD τ sig (Elt F) Λ₀ (tileOf d L).2) α} {Q : α → sProp 𝕄} :
    iprop(holds (tileOf d L) ot (entriesOf X Wt (colAt L) n) ∗ block d L n f ∗ semVal (tileOf d L, SemLoc.dma sem) 0)
      ⊢ iprop((leaving X Wt d L ot sem n -∗ runs (tileOf d L) (k ⟨⟩) Q)
          -∗ runs (tileOf d L) (.op (.enqueueDma ot (.here (blockV off inb)) (.dma sem) hsrc hdst hsem) k) Q) := by
  iintro ⟨Ho, Hb, Hs⟩ Hk
  ihave Hb := (block_take n d L inb hoff f) $$ Hb
  iapply (copy_start (F := F) (tileOf d L) (src := ot) (dst := blockV off inb) (sem := sem) (by decide)) $$ [Ho Hb Hs]
  · isplitl [Ho]; · iexact Ho
    isplitl [Hb] <;> iassumption
  iintro Hf
  iapply Hk
  unfold leaving blockCredit
  rw [block_credit _ off origin_inb inb]
  iapply (Transfers.Flight_mono countersEmb (tileOf d L) (?_)) $$ Hf
  iintro ⟨Hb, Ho⟩
  isplitl [Hb]
  · iapply (block_give X Wt n d L inb hoff) $$ Hb
  · iapply (spare_intro (F := F) (tileOf d L) ot _) $$ Ho

/-- Waiting for the write of chunk `n`: its block is finished and the buffer is at rest again. -/
theorem wait_out {off : Fin 3 → ℕ} {inb : ∀ a, off a + S1x32x128.size a ≤ S26x32x16384.size a} {hsrc : ot.view.WordExact} {hdst : (blockV off inb).view.WordExact}
    {α : Type} {k : PUnit → Prog (TpuEff nD τ sig (Elt F) Λ₀ (tileOf d L).2) α} {Q : α → sProp 𝕄} :
    iprop(Transfers.MayWaits (tileOf d L) (default : HIx 1) O ∗ leaving X Wt d L ot sem n ∗ owed (tileOf d L) O W)
      ⊢ iprop((iprop(block d L n (outOf X Wt) ∗ spare (F := F) (tileOf d L) ot ∗ semVal (tileOf d L, SemLoc.dma sem) 0 ∗ owed (tileOf d L) O W)
            -∗ runs (tileOf d L) (k ⟨⟩) Q)
          -∗ runs (tileOf d L) (.op (.waitDma2 sem ot (blockV off inb) hsrc hdst) k) Q) := by
  unfold leaving
  iintro ⟨Hmw, Hf, HO⟩ Hk
  iapply (flight_wait (F := F) (tileOf d L) (sem := sem) (dstw := blockV off inb) (N := blockCredit) (block_credit off _ inb origin_inb)) $$ [Hmw Hf HO]
  · isplitl [Hmw]; · iexact Hmw
    isplitl [Hf] <;> iassumption
  iintro ⟨⟨Hb, Ho⟩, Hs, HO⟩
  iapply Hk
  isplitl [Hb]; · iexact Hb
  isplitl [Ho]; · iexact Ho
  isplitl [Hs] <;> iassumption

end Out

end Cert.Proof.Lookup

end
-- ==== Proof.Body.lean ====
/-
  One tile's program: 104 chunks, two at a time, each chunk's indirect copy issued while the chunk before is selected,
  and each chunk's copy to the output waited for when its buffer is next needed.
-/
module

public import proofs.«01_k».proof.Proof.Chunk

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's buffers: one set for the even chunks, one for the odd -/

abbrev ixA : Memref sig .scVector .vmem S128 .i32 := Memref.whole cc0_scratch0
abbrev ixB : Memref sig .scVector .vmem S128 .i32 := Memref.whole cc0_scratch1
abbrev rwA : Memref sig .scVector .vmem S128 .i32 := Memref.whole cc0_scratch2
abbrev rwB : Memref sig .scVector .vmem S128 .i32 := Memref.whole cc0_scratch3
abbrev lnA : Memref sig .scVector .vmem S128 .i32 := Memref.whole cc0_scratch4
abbrev lnB : Memref sig .scVector .vmem S128 .i32 := Memref.whole cc0_scratch5
abbrev tbA : Memref sig .scVector .vmem S128x128 .f32 := Memref.whole cc0_scratch6
abbrev tbB : Memref sig .scVector .vmem S128x128 .f32 := Memref.whole cc0_scratch7
abbrev otA : Memref sig .scVector .vmem S32x128 .f32 := Memref.whole cc0_scratch8
abbrev otB : Memref sig .scVector .vmem S32x128 .f32 := Memref.whole cc0_scratch9

/-- The rows of the even gather credit together what the whole buffer does. -/
theorem creditA : ∀ h : S250000x128.Gathers 0 S128x128, ∑ j, (tbA.slice (S128x128.rowRect h.axis' j) (S128x128.stride_rowRect h.axis' j)).view.dmaCredit
    = tbA.view.dmaCredit := by decide
/-- The rows of the odd gather credit together what the whole buffer does. -/
theorem creditB : ∀ h : S250000x128.Gathers 0 S128x128, ∑ j, (tbB.slice (S128x128.rowRect h.axis' j) (S128x128.stride_rowRect h.axis' j)).view.dmaCredit
    = tbB.view.dmaCredit := by decide

variable (d : Dev nD) (L : grid0.Coords)

/-- The program's own pieces, at the tile's buffers and semaphores. -/
abbrev bodyP := cc0_body (F := F) L xV (Memref.isWhole_whole _) wV (Memref.isWhole_whole _) oV (Memref.isWhole_whole _)
  ixA (Memref.isWhole_whole _) ixB (Memref.isWhole_whole _) rwA (Memref.isWhole_whole _) rwB (Memref.isWhole_whole _)
  lnA (Memref.isWhole_whole _) lnB (Memref.isWhole_whole _) tbA (Memref.isWhole_whole _) tbB (Memref.isWhole_whole _)
  otA (Memref.isWhole_whole _) otB (Memref.isWhole_whole _) cc0_scratch10 cc0_scratch11 cc0_scratch12 cc0_scratch13 cc0_scoped0 cc0_scoped1 cc0_scoped2
abbrev part1P := k0_part1 (F := F) L xV (Memref.isWhole_whole _) wV (Memref.isWhole_whole _) oV (Memref.isWhole_whole _)
  ixA (Memref.isWhole_whole _) ixB (Memref.isWhole_whole _) rwA (Memref.isWhole_whole _) rwB (Memref.isWhole_whole _)
  lnA (Memref.isWhole_whole _) lnB (Memref.isWhole_whole _) tbA (Memref.isWhole_whole _) tbB (Memref.isWhole_whole _)
  otA (Memref.isWhole_whole _) otB (Memref.isWhole_whole _) cc0_scratch10 cc0_scratch11 cc0_scratch12 cc0_scratch13 cc0_scoped0 cc0_scoped1 cc0_scoped2
abbrev part2P := k0_part2 (F := F) L xV (Memref.isWhole_whole _) wV (Memref.isWhole_whole _) oV (Memref.isWhole_whole _)
  ixA (Memref.isWhole_whole _) ixB (Memref.isWhole_whole _) rwA (Memref.isWhole_whole _) rwB (Memref.isWhole_whole _)
  lnA (Memref.isWhole_whole _) lnB (Memref.isWhole_whole _) tbA (Memref.isWhole_whole _) tbB (Memref.isWhole_whole _)
  otA (Memref.isWhole_whole _) otB (Memref.isWhole_whole _) cc0_scratch10 cc0_scratch11 cc0_scratch12 cc0_scratch13 cc0_scoped0 cc0_scoped1 cc0_scoped2
abbrev part3P := k0_part3 (F := F) L xV (Memref.isWhole_whole _) wV (Memref.isWhole_whole _) oV (Memref.isWhole_whole _)
  ixA (Memref.isWhole_whole _) ixB (Memref.isWhole_whole _) rwA (Memref.isWhole_whole _) rwB (Memref.isWhole_whole _)
  lnA (Memref.isWhole_whole _) lnB (Memref.isWhole_whole _) tbA (Memref.isWhole_whole _) tbB (Memref.isWhole_whole _)
  otA (Memref.isWhole_whole _) otB (Memref.isWhole_whole _) cc0_scratch10 cc0_scratch11 cc0_scratch12 cc0_scratch13 cc0_scoped0 cc0_scoped1 cc0_scoped2
abbrev roundP := k0_t2_body (F := F) L xV (Memref.isWhole_whole _) wV (Memref.isWhole_whole _) oV (Memref.isWhole_whole _)
  ixA (Memref.isWhole_whole _) ixB (Memref.isWhole_whole _) rwA (Memref.isWhole_whole _) rwB (Memref.isWhole_whole _)
  lnA (Memref.isWhole_whole _) lnB (Memref.isWhole_whole _) tbA (Memref.isWhole_whole _) tbB (Memref.isWhole_whole _)
  otA (Memref.isWhole_whole _) otB (Memref.isWhole_whole _) cc0_scratch10 cc0_scratch11 cc0_scratch12 cc0_scratch13 cc0_scoped0 cc0_scoped1 cc0_scoped2

variable (X : S425984.Idx → BitVec 32) (Wt : S250000x128.Idx → Elt F .f32) (f : S26x32x16384.Idx → Elt F .f32) (qx qw : PosShare TreeShare)
variable (O : CellTallies nD τ sig (HIx 1)) (W : Waits sig (HIx 1))

/-! ## The blocks of the output -/

/-- The blocks of the first `k` chunks, written. -/
def doneTo (k : ℕ) : sProp 𝕄 := bigSep (Finset.range k) fun n => block d L n (outOf X Wt)
/-- The blocks of the chunks from `k` on, as they were. -/
def todoFrom (k : ℕ) : sProp 𝕄 := bigSep (Finset.Ico k 104) fun n => block d L n f

/-- Chunk `k`'s block is taken from those still to be written. -/
theorem todo_take (k : ℕ) (hk : k < 104) : todoFrom d L f k ⊢ iprop(block d L k f ∗ todoFrom d L f (k + 1)) := by
  unfold todoFrom
  rw [show Finset.Ico k 104 = insert k (Finset.Ico (k + 1) 104) from by ext x; simp only [Finset.mem_Ico, Finset.mem_insert]; omega,
    SparseCore.bigSep_insert' (by simp)]

/-- Chunk `k`'s block, written, joins those before it. -/
theorem done_put (k : ℕ) : iprop(block d L k (outOf X Wt) ∗ doneTo d L X Wt k) ⊢ doneTo d L X Wt (k + 1) := by
  unfold doneTo
  rw [Finset.range_add_one, SparseCore.bigSep_insert' (by simp)]

/-! ## The state between the steps of a round -/

/-- What every step keeps: the right to wait, the list's share, the index buffers and their semaphores. -/
def base : sProp 𝕄 :=
  iprop(Transfers.MayWaits (tileOf d L) (default : HIx 1) O ∗ holdsAt (F := F) (tileOf d L) xV qx X ∗ spare (F := F) (tileOf d L) ixA ∗ spare (F := F) (tileOf d L) ixB
    ∗ semVal (tileOf d L, SemLoc.dma cc0_scoped0.sem) 0 ∗ semVal (tileOf d L, SemLoc.dma cc0_scoped1.sem) 0 ∗ semVal (tileOf d L, SemLoc.dma cc0_scoped2.sem) 0)

/-- An output buffer before round `r`: at rest in the first, on its way with chunk `n` afterwards. -/
def outgoing (ot : Memref sig .scVector .vmem S32x128 .f32) (sem : DmaSem sig) (r n : ℕ) : sProp 𝕄 :=
  if r = 0 then iprop(spare (F := F) (tileOf d L) ot ∗ semVal (tileOf d L, SemLoc.dma sem) 0) else leaving X Wt d L ot sem n

/-- The even buffers before round `r`: chunk `2 r` under way, or at rest after the last round. -/
def incoming (r : ℕ) : sProp 𝕄 :=
  if r < 52 then underway X Wt d L rwA lnA tbA cc0_scratch10.sem qw.left (2 * r) else idle Wt d L rwA lnA tbA cc0_scratch10.sem qw.left

/-- The pieces make up what every step keeps. -/
theorem base_intro : iprop(Transfers.MayWaits (tileOf d L) (default : HIx 1) O ∗ holdsAt (F := F) (tileOf d L) xV qx X ∗ spare (F := F) (tileOf d L) ixA ∗ spare (F := F) (tileOf d L) ixB
    ∗ semVal (tileOf d L, SemLoc.dma cc0_scoped0.sem) 0 ∗ semVal (tileOf d L, SemLoc.dma cc0_scoped1.sem) 0 ∗ semVal (tileOf d L, SemLoc.dma cc0_scoped2.sem) 0) ⊢ base (F := F) d L X qx O := BI.Entails.refl _

/-- The right to wait may be copied out of what every step keeps. -/
theorem base_may : base (F := F) d L X qx O ⊢ iprop(□ Transfers.MayWaits (tileOf d L) (default : HIx 1) O ∗ base (F := F) d L X qx O) := by
  unfold base
  iintro ⟨#Hmw, H⟩
  isplitr; · imodintro; iexact Hmw
  isplitr; · iexact Hmw
  iexact H

/-- In the first round an output buffer is at rest. -/
theorem outgoing_first (ot : Memref sig .scVector .vmem S32x128 .f32) (sem : DmaSem sig) (r n : ℕ) (h : r = 0) :
    outgoing d L X Wt ot sem r n ⊣⊢ iprop(spare (F := F) (tileOf d L) ot ∗ semVal (tileOf d L, SemLoc.dma sem) 0) := by
  unfold outgoing; rw [if_pos h]

/-- In every later round an output buffer is on its way. -/
theorem outgoing_later (ot : Memref sig .scVector .vmem S32x128 .f32) (sem : DmaSem sig) (r n : ℕ) (h : r ≠ 0) :
    outgoing d L X Wt ot sem r n ⊣⊢ leaving X Wt d L ot sem n := by
  unfold outgoing; rw [if_neg h]

/-- Before the last round ends, the next even chunk is under way. -/
theorem incoming_more (r : ℕ) (h : r < 51) : incoming d L X Wt qw (r + 1) ⊣⊢ underway X Wt d L rwA lnA tbA cc0_scratch10.sem qw.left (2 * r + 2) := by
  unfold incoming; rw [if_pos (by omega)]; exact ⟨BI.Entails.refl _, BI.Entails.refl _⟩

/-- After the last round the even buffers are at rest. -/
theorem incoming_none (r : ℕ) (h : ¬r < 51) : incoming d L X Wt qw (r + 1) ⊣⊢ idle Wt d L rwA lnA tbA cc0_scratch10.sem qw.left := by
  unfold incoming; rw [if_neg (by omega)]

/-- Before round `r`. -/
def atRound (r : ℕ) : sProp 𝕄 :=
  iprop(base d L X qx O ∗ owed (tileOf d L) O W ∗ incoming d L X Wt qw r ∗ idle Wt d L rwB lnB tbB cc0_scratch11.sem qw.right
    ∗ outgoing d L X Wt otA cc0_scratch12.sem r (2 * r - 2) ∗ outgoing d L X Wt otB cc0_scratch13.sem r (2 * r - 1)
    ∗ doneTo d L X Wt (2 * r - 2) ∗ todoFrom d L f (2 * r))

/-- Amid round `r`: the even chunk's entries selected, the odd chunk under way. -/
def amidRound (r : ℕ) : sProp 𝕄 :=
  iprop(base d L X qx O ∗ owed (tileOf d L) O W ∗ idle Wt d L rwA lnA tbA cc0_scratch10.sem qw.left ∗ underway X Wt d L rwB lnB tbB cc0_scratch11.sem qw.right (2 * r + 1)
    ∗ (holds (tileOf d L) otA (entriesOf X Wt (colAt L) (2 * r)) ∗ semVal (tileOf d L, SemLoc.dma cc0_scratch12.sem) 0)
    ∗ outgoing d L X Wt otB cc0_scratch13.sem r (2 * r - 1)
    ∗ doneTo d L X Wt (2 * r - 1) ∗ todoFrom d L f (2 * r))

/-- Late in round `r`: the odd chunk's entries selected too. -/
def lateRound (r : ℕ) : sProp 𝕄 :=
  iprop(base d L X qx O ∗ owed (tileOf d L) O W ∗ incoming d L X Wt qw (r + 1) ∗ idle Wt d L rwB lnB tbB cc0_scratch11.sem qw.right
    ∗ leaving X Wt d L otA cc0_scratch12.sem (2 * r)
    ∗ (holds (tileOf d L) otB (entriesOf X Wt (colAt L) (2 * r + 1)) ∗ semVal (tileOf d L, SemLoc.dma cc0_scratch13.sem) 0)
    ∗ doneTo d L X Wt (2 * r) ∗ todoFrom d L f (2 * r + 1))

/-- Round `r` writes its even chunk to the block of chunk `2 r`. -/
theorem off_even_out (r : Fin k0_t2_loop.trips) (a : Fin 3) :
    k0_off8 L r 0#32 a = (![(2 * r.val) / 4, 0, colAt L + 128 * ((2 * r.val) % 4)] : Fin 3 → ℕ) a := off_out L r 0 a
/-- Round `r` writes its odd chunk to the block of chunk `2 r + 1`. -/
theorem off_odd_out (r : Fin k0_t2_loop.trips) (a : Fin 3) :
    k0_off8 L r 1#32 a = (![(2 * r.val + 1) / 4, 0, colAt L + 128 * ((2 * r.val + 1) % 4)] : Fin 3 → ℕ) a := off_out L r 1 a

variable {X}

/-- A chunk's selection: after every round but the first, what the output buffer held before must first have left. -/
theorem settle (hX : InRange X) (rw ln : Memref sig .scVector .vmem S128 .i32) (tb : Memref sig .scVector .vmem S128x128 .f32) (gsem : DmaSem sig) (q : PosShare TreeShare)
    (ot : Memref sig .scVector .vmem S32x128 .f32) (sem : DmaSem sig) (N r n m : ℕ) {C : Prop} [Decidable C] (hC : C ↔ 0 < r) (h0 : r = 0 → m = n) (h1 : 0 < r → m = n + 1)
    {off : C → Fin 3 → ℕ} {inb : ∀ h a, off h a + S1x32x128.size a ≤ S26x32x16384.size a} {hsrc : C → ot.view.WordExact}
    {hdst : ∀ h, (blockV (off h) (inb h)).view.WordExact} {hok : k0_t4_loop.OK}
    {α : Type} {k : Unit → Prog (TpuEff nD τ sig (Elt F) Λ₀ (tileOf d L).2) α} {Q : α → sProp 𝕄} :
    iprop(Transfers.MayWaits (tileOf d L) (default : HIx 1) O ∗ owed (tileOf d L) O W ∗ outgoing d L X Wt ot sem r n ∗ doneTo d L X Wt n
        ∗ fetched X Wt d L rw ln tb gsem q N)
      ⊢ iprop((iprop(owed (tileOf d L) O W ∗ (holds (tileOf d L) ot (entriesOf X Wt (colAt L) N) ∗ semVal (tileOf d L, SemLoc.dma sem) 0) ∗ doneTo d L X Wt m
            ∗ idle Wt d L rw ln tb gsem q) -∗ runs (tileOf d L) (k ⟨⟩) Q)
        -∗ runs (tileOf d L) (if h : C then
              .op (.waitDma2 sem ot (blockV (off h) (inb h)) (hsrc h) (hdst h)) fun _ => Scf.Loop.for k0_t4_loop hok ⟨⟩ (laneBody d L ln tb ot) >>= k
            else Scf.Loop.for k0_t4_loop hok ⟨⟩ (laneBody d L ln tb ot) >>= k) Q) := by
  iintro ⟨Hmw, HO, Ho, Hd, Hf⟩ Hk
  by_cases hr : r = 0
  · obtain rfl := h0 hr
    rw [dif_neg (fun h => by have := hC.mp h; omega)]
    ihave Ho := (outgoing_first d L X Wt ot sem _ _ hr).1 $$ Ho
    icases Ho with ⟨Ho, Hs⟩
    iapply (select_run (F := F) Wt d L rw ln tb gsem q hX (ot := ot) N) $$ [Hf Ho]
    · isplitl [Hf] <;> iassumption
    iintro ⟨Hi, Ho⟩
    iapply Hk
    isplitl [HO]; · iexact HO
    isplitl [Ho Hs]; · isplitl [Ho] <;> iassumption
    isplitl [Hd] <;> iassumption
  · obtain rfl := h1 (by omega)
    rw [dif_pos (hC.mpr (by omega))]
    ihave Ho := (outgoing_later d L X Wt ot sem _ _ hr).1 $$ Ho
    iapply (wait_out (F := F) X Wt n d L ot sem O W) $$ [Hmw Ho HO]
    · isplitl [Hmw]; · iexact Hmw
      isplitl [Ho] <;> iassumption
    iintro ⟨Hb, Ho, Hs, HO⟩
    ihave Hd := (done_put d L X Wt n) $$ [Hb Hd]
    · isplitl [Hb] <;> iassumption
    iapply (select_run (F := F) Wt d L rw ln tb gsem q hX (ot := ot) N) $$ [Hf Ho]
    · isplitl [Hf] <;> iassumption
    iintro ⟨Hi, Ho⟩
    iapply Hk
    isplitl [HO]; · iexact HO
    isplitl [Ho Hs]; · isplitl [Ho] <;> iassumption
    isplitl [Hd] <;> iassumption

/-- The first part of a round. -/
theorem part1_run (hX : InRange X) (v2 : BitVec 32) (r : Fin k0_t2_loop.trips) :
    atRound d L X Wt f qx qw O W r.val ⊢ runs (tileOf d L) (part1P L v2 0#32 1#32 r) fun _ => amidRound d L X Wt f qx qw O W r.val := by
  have hr : r.val < 52 := Nat.lt_of_lt_of_eq r.isLt trips_rounds
  unfold part1P
  rw [k0_part1_eq_skeleton]
  unfold k0_part1_skel atRound incoming amidRound
  rw [if_pos hr]
  simp only [Prog.lift, Prog.bind_op, Prog.bind_ret, Prog.pure_eq_ret, dif_pos (cond_fetch_odd r)]
  iintro ⟨Hbase, HO, HA, HB, HoA, HoB, Hd, Ht⟩
  conv in base d L X qx O => unfold base
  icases Hbase with ⟨#Hmw, Hx, HiA, HiB, Hs4, Hs5, Hs6⟩
  iapply (wait_rows (F := F) X Wt d L rwA lnA tbA cc0_scratch10.sem qw.left O W (2 * r.val)) $$ [HA HO]
  · isplitr; · iexact Hmw
    isplitl [HA] <;> iassumption
  iintro ⟨HA, HO⟩
  iapply (fetch_run (F := F) Wt d L rwB lnB tbB cc0_scratch11.sem qw.right O W hX (creditB _) ixB cc0_scoped1.sem (k0_off3 L r) (k0_off3_inb L r (cond_fetch_odd r))
    k0_off4 (fun t => k0_off4_inb r t (cond_fetch_odd r)) k0_off4_eq (2 * r.val + 1) (off_odd L r (cond_fetch_odd r)) qx) $$ [Hx HiB Hs5 HB HO]
  · isplitr; · iexact Hmw
    isplitl [Hx]; · iexact Hx
    isplitl [HiB]; · iexact HiB
    isplitl [Hs5]; · iexact Hs5
    isplitl [HB] <;> iassumption
  iintro ⟨Hx, HiB, Hs5, HB, HO⟩
  ihave Hbase := (base_intro d L X qx O) $$ [Hx HiA HiB Hs4 Hs5 Hs6]
  · isplitr; · iexact Hmw
    isplitl [Hx]; · iexact Hx
    isplitl [HiA]; · iexact HiA
    isplitl [HiB]; · iexact HiB
    isplitl [Hs4]; · iexact Hs4
    isplitl [Hs5] <;> iassumption
  iapply (settle (F := F) d L Wt O W hX rwA lnA tbA cc0_scratch10.sem qw.left otA cc0_scratch12.sem (2 * r.val) r.val (2 * r.val - 2) (2 * r.val - 1)
    (cond_wait_even r) (by omega) (by omega)) $$ [HO HoA Hd HA]
  · isplitr; · iexact Hmw
    isplitl [HO]; · iexact HO
    isplitl [HoA]; · iexact HoA
    isplitl [Hd] <;> iassumption
  iintro ⟨HO, HoA, Hd, HA⟩
  iapply (runs_ret (F := F) (tileOf d L))
  isplitl [Hbase]; · iexact Hbase
  isplitl [HO]; · iexact HO
  isplitl [HA]; · iexact HA
  isplitl [HB]; · iexact HB
  isplitl [HoA]; · iexact HoA
  isplitl [HoB]; · iexact HoB
  isplitl [Hd] <;> iassumption

/-- The second part of a round. -/
theorem part2_run (hX : InRange X) (v2 a b c e g : BitVec 32) (r : Fin k0_t2_loop.trips) :
    amidRound d L X Wt f qx qw O W r.val ⊢ runs (tileOf d L) (part2P L v2 r a b c e g) fun _ => lateRound d L X Wt f qx qw O W r.val := by
  have hr : r.val < 52 := Nat.lt_of_lt_of_eq r.isLt trips_rounds
  unfold part2P
  rw [k0_part2_eq_skeleton]
  unfold k0_part2_skel amidRound lateRound
  simp only [Prog.lift, Prog.bind_op, Prog.bind_ret, Prog.pure_eq_ret]
  iintro ⟨Hbase, HO, HA, HB, ⟨HoA, HsA⟩, HoB, Hd, Ht⟩
  conv in base d L X qx O => unfold base
  icases Hbase with ⟨#Hmw, Hx, HiA, HiB, Hs4, Hs5, Hs6⟩
  ihave Ht := (todo_take d L f (2 * r.val) (by omega)) $$ Ht
  icases Ht with ⟨Hb, Ht⟩
  iapply (start_out (F := F) X Wt (2 * r.val) d L otA cc0_scratch12.sem (off_even_out L r) f) $$ [HoA HsA Hb]
  · isplitl [HoA]; · iexact HoA
    isplitl [Hb] <;> iassumption
  iintro HoA
  iapply (wait_rows (F := F) X Wt d L rwB lnB tbB cc0_scratch11.sem qw.right O W (2 * r.val + 1)) $$ [HB HO]
  · isplitr; · iexact Hmw
    isplitl [HB] <;> iassumption
  iintro ⟨HB, HO⟩
  by_cases h3 : r.val < 51
  · rw [dif_pos ((cond_fetch_even r).mpr h3)]
    iapply (fetch_run (F := F) Wt d L rwA lnA tbA cc0_scratch10.sem qw.left O W hX (creditA _) ixA cc0_scoped2.sem (k0_off9 L r) (k0_off9_inb L r ((cond_fetch_even r).mpr h3))
      k0_off10 (fun t => k0_off10_inb r t ((cond_fetch_even r).mpr h3)) k0_off10_eq (2 * r.val + 2) (off_even L r ((cond_fetch_even r).mpr h3)) qx) $$ [Hx HiA Hs6 HA HO]
    · isplitr; · iexact Hmw
      isplitl [Hx]; · iexact Hx
      isplitl [HiA]; · iexact HiA
      isplitl [Hs6]; · iexact Hs6
      isplitl [HA] <;> iassumption
    iintro ⟨Hx, HiA, Hs6, HA, HO⟩
    ihave HA := (incoming_more d L X Wt qw r.val h3).2 $$ HA
    iapply (settle (F := F) d L Wt O W hX rwB lnB tbB cc0_scratch11.sem qw.right otB cc0_scratch13.sem (2 * r.val + 1) r.val (2 * r.val - 1) (2 * r.val)
      (cond_wait_odd r) (by omega) (by omega)) $$ [HO HoB Hd HB]
    · isplitr; · iexact Hmw
      isplitl [HO]; · iexact HO
      isplitl [HoB]; · iexact HoB
      isplitl [Hd] <;> iassumption
    iintro ⟨HO, HoB, Hd, HB⟩
    iapply (runs_ret (F := F) (tileOf d L))
    isplitl [Hx HiA HiB Hs4 Hs5 Hs6]
    · iapply (base_intro d L X qx O)
      isplitr; · iexact Hmw
      isplitl [Hx]; · iexact Hx
      isplitl [HiA]; · iexact HiA
      isplitl [HiB]; · iexact HiB
      isplitl [Hs4]; · iexact Hs4
      isplitl [Hs5] <;> iassumption
    isplitl [HO]; · iexact HO
    isplitl [HA]; · iexact HA
    isplitl [HB]; · iexact HB
    isplitl [HoA]; · iexact HoA
    isplitl [HoB]; · iexact HoB
    isplitl [Hd] <;> iassumption
  · rw [dif_neg (fun h => h3 ((cond_fetch_even r).mp h))]
    ihave HA := (incoming_none d L X Wt qw r.val h3).2 $$ HA
    iapply (settle (F := F) d L Wt O W hX rwB lnB tbB cc0_scratch11.sem qw.right otB cc0_scratch13.sem (2 * r.val + 1) r.val (2 * r.val - 1) (2 * r.val)
      (cond_wait_odd r) (by omega) (by omega)) $$ [HO HoB Hd HB]
    · isplitr; · iexact Hmw
      isplitl [HO]; · iexact HO
      isplitl [HoB]; · iexact HoB
      isplitl [Hd] <;> iassumption
    iintro ⟨HO, HoB, Hd, HB⟩
    iapply (runs_ret (F := F) (tileOf d L))
    isplitl [Hx HiA HiB Hs4 Hs5 Hs6]
    · iapply (base_intro d L X qx O)
      isplitr; · iexact Hmw
      isplitl [Hx]; · iexact Hx
      isplitl [HiA]; · iexact HiA
      isplitl [HiB]; · iexact HiB
      isplitl [Hs4]; · iexact Hs4
      isplitl [Hs5] <;> iassumption
    isplitl [HO]; · iexact HO
    isplitl [HA]; · iexact HA
    isplitl [HB]; · iexact HB
    isplitl [HoA]; · iexact HoA
    isplitl [HoB]; · iexact HoB
    isplitl [Hd] <;> iassumption

/-- One round: two chunks selected, the next two under way. -/
theorem round_run (hX : InRange X) (v2 : BitVec 32) (r : Fin k0_t2_loop.trips) :
    atRound d L X Wt f qx qw O W r.val ⊢ runs (tileOf d L) (roundP L v2 r ()) fun _ => atRound d L X Wt f qx qw O W (r.val + 1) := by
  have hr : r.val < 52 := Nat.lt_of_lt_of_eq r.isLt trips_rounds
  unfold roundP k0_t2_body
  iintro H
  iapply (runs_bind (F := F) (tileOf d L) (part1_run d L Wt f qx qw O W hX v2 r)) $$ H
  iintro %a H
  rcases a with ⟨a1, a2, a3, a4, a5⟩
  iapply (runs_bind (F := F) (tileOf d L) (part2_run d L Wt f qx qw O W hX v2 a1 a2 a3 a4 a5 r)) $$ H
  iintro %b H
  rcases b with ⟨b1, b2, b3, b4, b5⟩
  simp only [Prog.lift, Prog.bind_op, Prog.bind_ret, Prog.pure_eq_ret]
  conv in lateRound d L X Wt f qx qw O W r.val => unfold lateRound
  icases H with ⟨Hbase, HO, HA, HB, HoA, ⟨HoB, HsB⟩, Hd, Ht⟩
  ihave Ht := (todo_take d L f (2 * r.val + 1) (by omega)) $$ Ht
  icases Ht with ⟨Hb, Ht⟩
  iapply (start_out (F := F) X Wt (2 * r.val + 1) d L otB cc0_scratch13.sem (off_odd_out L r) f) $$ [HoB HsB Hb]
  · isplitl [HoB]; · iexact HoB
    isplitl [Hb] <;> iassumption
  iintro HoB
  iapply (runs_ret (F := F) (tileOf d L))
  unfold atRound
  isplitl [Hbase]; · iexact Hbase
  isplitl [HO]; · iexact HO
  isplitl [HA]; · iexact HA
  isplitl [HB]; · iexact HB
  isplitl [HoA]; · iapply (outgoing_later d L X Wt otA cc0_scratch12.sem (r.val + 1) (2 * r.val) (by omega)).2 $$ HoA
  isplitl [HoB]; · iapply (outgoing_later d L X Wt otB cc0_scratch13.sem (r.val + 1) (2 * r.val + 1) (by omega)).2 $$ HoB
  isplitl [Hd]
  · rw [show 2 * (r.val + 1) - 2 = 2 * r.val by omega]; iexact Hd
  · rw [show 2 * (r.val + 1) = 2 * r.val + 1 + 1 by omega]; iexact Ht

/-! ## The whole program -/

/-- The tile's buffers and semaphores at rest, with its shares of the index list and the table. -/
def atRest (X : S425984.Idx → BitVec 32) : sProp 𝕄 :=
  iprop(base d L X qx O ∗ owed (tileOf d L) O W ∗ idle Wt d L rwA lnA tbA cc0_scratch10.sem qw.left ∗ idle Wt d L rwB lnB tbB cc0_scratch11.sem qw.right
    ∗ (spare (F := F) (tileOf d L) otA ∗ semVal (tileOf d L, SemLoc.dma cc0_scratch12.sem) 0)
    ∗ (spare (F := F) (tileOf d L) otB ∗ semVal (tileOf d L, SemLoc.dma cc0_scratch13.sem) 0))

/-- All but the last chunk's arrival in the output. -/
def atLast (X : S425984.Idx → BitVec 32) : sProp 𝕄 :=
  iprop(base d L X qx O ∗ owed (tileOf d L) O W ∗ idle Wt d L rwA lnA tbA cc0_scratch10.sem qw.left ∗ idle Wt d L rwB lnB tbB cc0_scratch11.sem qw.right
    ∗ (spare (F := F) (tileOf d L) otA ∗ semVal (tileOf d L, SemLoc.dma cc0_scratch12.sem) 0)
    ∗ leaving X Wt d L otB cc0_scratch13.sem 103 ∗ doneTo d L X Wt 103)

/-- After the last round. -/
theorem round_end {n : ℕ} (hn : n = 52) : atRound d L X Wt f qx qw O W n ⊢
    iprop(base d L X qx O ∗ owed (tileOf d L) O W ∗ idle Wt d L rwA lnA tbA cc0_scratch10.sem qw.left ∗ idle Wt d L rwB lnB tbB cc0_scratch11.sem qw.right
      ∗ leaving X Wt d L otA cc0_scratch12.sem 102 ∗ leaving X Wt d L otB cc0_scratch13.sem 103 ∗ doneTo d L X Wt 102) := by
  subst hn
  unfold atRound
  iintro ⟨Hbase, HO, HA, HB, HoA, HoB, Hd, Ht⟩
  ihave HA := (incoming_none d L X Wt qw 51 (by decide)).1 $$ HA
  ihave HoA := (outgoing_later d L X Wt otA cc0_scratch12.sem 52 102 (by decide)).1 $$ HoA
  ihave HoB := (outgoing_later d L X Wt otB cc0_scratch13.sem 52 103 (by decide)).1 $$ HoB
  ihave Ht := (show todoFrom d L f 104 ⊢ (emp : sProp 𝕄) by unfold todoFrom; rw [Finset.Ico_self, bigSep_empty]; exact BI.Entails.refl _) $$ Ht
  iclear Ht
  isplitl [Hbase]; · iexact Hbase
  isplitl [HO]; · iexact HO
  isplitl [HA]; · iexact HA
  isplitl [HB]; · iexact HB
  isplitl [HoA]; · iexact HoA
  isplitl [HoB] <;> iassumption

/-- The first part: the list's first chunk fetched, the rounds, and the wait for the last even block. -/
theorem part3_run (hX : InRange X) :
    iprop(atRest d L Wt qx qw O W X ∗ todoFrom d L f 0) ⊢ runs (tileOf d L) (part3P L) fun _ => atLast d L Wt qx qw O W X := by
  unfold part3P
  rw [k0_part3_eq_skeleton]
  unfold k0_part3_skel atRest atLast
  simp only [Prog.lift, Prog.bind_op, Prog.bind_ret, Prog.pure_eq_ret]
  iintro ⟨⟨Hbase, HO, HA, HB, HoA, HoB⟩, Ht⟩
  conv in base d L X qx O => unfold base
  icases Hbase with ⟨#Hmw, Hx, HiA, HiB, Hs4, Hs5, Hs6⟩
  iapply (fetch_run (F := F) Wt d L rwA lnA tbA cc0_scratch10.sem qw.left O W hX (creditA _) ixA cc0_scoped0.sem (k0_off1 L) (k0_off1_inb L)
    k0_off2 (fun t => k0_off2_inb t) k0_off2_eq 0 (off_first L) qx) $$ [Hx HiA Hs4 HA HO]
  · isplitr; · iexact Hmw
    isplitl [Hx]; · iexact Hx
    isplitl [HiA]; · iexact HiA
    isplitl [Hs4]; · iexact Hs4
    isplitl [HA] <;> iassumption
  iintro ⟨Hx, HiA, Hs4, HA, HO⟩
  ihave Hbase := (base_intro d L X qx O) $$ [Hx HiA HiB Hs4 Hs5 Hs6]
  · isplitr; · iexact Hmw
    isplitl [Hx]; · iexact Hx
    isplitl [HiA]; · iexact HiA
    isplitl [HiB]; · iexact HiB
    isplitl [Hs4]; · iexact Hs4
    isplitl [Hs5] <;> iassumption
  unfold runs
  sl_for (fun (t : ℕ) (_ : Unit) => atRound d L X Wt f qx qw O W t) $$ [Hbase HO HA HB HoA HoB Ht]
  case region =>
    intro t acc
    exact round_run d L Wt f qx qw O W hX _ t
  · unfold atRound incoming doneTo
    rw [if_pos (by decide), show Finset.range (2 * 0 - 2) = ∅ from rfl, bigSep_empty]
    isplitl [Hbase]; · iexact Hbase
    isplitl [HO]; · iexact HO
    isplitl [HA]; · iexact HA
    isplitl [HB]; · iexact HB
    isplitl [HoA]; · iapply (outgoing_first d L X Wt otA cc0_scratch12.sem 0 _ rfl).2 $$ HoA
    isplitl [HoB]; · iapply (outgoing_first d L X Wt otB cc0_scratch13.sem 0 _ rfl).2 $$ HoB
    isplitr; · iempintro
    iexact Ht
  iintro %_ H
  ihave H := (round_end d L Wt f qx qw O W (X := X) trips_rounds) $$ H
  icases H with ⟨Hbase, HO, HA, HB, HoA, HoB, Hd⟩
  ihave Hbase := (base_may d L X qx O) $$ Hbase
  icases Hbase with ⟨#Hmw, Hbase⟩
  iapply (wait_out (F := F) X Wt 102 d L otA cc0_scratch12.sem O W) $$ [HoA HO]
  · isplitr; · iexact Hmw
    isplitl [HoA] <;> iassumption
  iintro ⟨Hb, HoA, HsA, HO⟩
  ihave Hd := (done_put d L X Wt 102) $$ [Hb Hd]
  · isplitl [Hb] <;> iassumption
  iapply (runs_ret (F := F) (tileOf d L))
  isplitl [Hbase]; · iexact Hbase
  isplitl [HO]; · iexact HO
  isplitl [HA]; · iexact HA
  isplitl [HB]; · iexact HB
  isplitl [HoA HsA]; · isplitl [HoA] <;> iassumption
  isplitl [HoB] <;> iassumption

/-- The tile's whole program: every one of its blocks holds the entries looked up, and all else is at rest again. -/
theorem tile_run (hX : InRange X) :
    iprop(atRest d L Wt qx qw O W X ∗ todoFrom d L f 0) ⊢ runs (tileOf d L) (bodyP L) fun _ => iprop(atRest d L Wt qx qw O W X ∗ doneTo d L X Wt 104) := by
  unfold bodyP
  rw [cc0_body_eq_skeleton]
  unfold cc0_body_skel
  iintro H
  iapply (runs_bind (F := F) (tileOf d L) (part3_run d L Wt f qx qw O W hX)) $$ H
  iintro %a H
  rcases a with ⟨a1, a2⟩
  simp only [Prog.lift, Prog.bind_op, Prog.bind_ret, Prog.pure_eq_ret]
  conv in atLast d L Wt qx qw O W X => unfold atLast
  icases H with ⟨Hbase, HO, HA, HB, HoA, HoB, Hd⟩
  ihave Hbase := (base_may d L X qx O) $$ Hbase
  icases Hbase with ⟨#Hmw, Hbase⟩
  iapply (wait_out (F := F) X Wt 103 d L otB cc0_scratch13.sem O W) $$ [HoB HO]
  · isplitr; · iexact Hmw
    isplitl [HoB] <;> iassumption
  iintro ⟨Hb, HoB, HsB, HO⟩
  ihave Hd := (done_put d L X Wt 103) $$ [Hb Hd]
  · isplitl [Hb] <;> iassumption
  iapply (runs_ret (F := F) (tileOf d L))
  isplitr [Hd]
  · unfold atRest
    isplitl [Hbase]; · iexact Hbase
    isplitl [HO]; · iexact HO
    isplitl [HA]; · iexact HA
    isplitl [HB]; · iexact HB
    isplitl [HoA]; · iexact HoA
    isplitl [HoB] <;> iassumption
  iexact Hd

end Cert.Proof.Lookup

end
-- ==== Proof.Tile.lean ====
/-
  One tile's task as the launch hands it out: its shares of the list and the table, its blocks of the output, and its
  buffers and semaphores among those it owns.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The tile's own semaphores and buffers -/

/-- The semaphores the tile's program uses. -/
def semOf : Fin 7 → DmaSem sig :=
  ![cc0_scoped0.sem, cc0_scoped1.sem, cc0_scoped2.sem, cc0_scratch10.sem, cc0_scratch11.sem, cc0_scratch12.sem, cc0_scratch13.sem]

/-- The buffers the tile's program uses. -/
def bufOf : Fin 10 → Ref sig .scVector :=
  ![cc0_scratch0, cc0_scratch1, cc0_scratch2, cc0_scratch3, cc0_scratch4, cc0_scratch5, cc0_scratch6, cc0_scratch7, cc0_scratch8, cc0_scratch9]

/-- The seven semaphores are different. -/
theorem semOf_injective : Function.Injective semOf := by decide
/-- The ten buffers are different. -/
theorem bufOf_injective : Function.Injective bufOf := by decide
/-- The ten buffers are the tile's own. -/
theorem bufOf_owner : ∀ i, ((tileOf d L).2.devRef (bufOf i)).owner = .proc (tileOf d L).2 := by
  intro i
  fin_cases i <;> rfl

/-- The seven semaphores are the tile's own. -/
theorem semOf_scoped : ∀ i, (SemLoc.dma (semOf i) : SemLoc sig).isScoped .scVector = true := by decide

/-- The seven semaphores, as cells of the tile. -/
def semCell : Fin 7 ↪ GSem nD τ sig :=
  ⟨fun i => (tileOf d L, SemLoc.dma (semOf i)), fun i j h => semOf_injective (SemLoc.dma.inj (Prod.mk.inj h).2)⟩
/-- The ten buffers, as buffers of the tile. -/
def bufCell : Fin 10 ↪ DevRef τ sig :=
  ⟨fun i => (tileOf d L).2.devRef (bufOf i), fun i j h => bufOf_injective (Proc.devRef_injective _ h)⟩

/-- The tile's semaphores at zero are those the program uses and the rest. -/
theorem sems_split : (ownSems0 (tileOf d L) : sProp 𝕄)
    = iprop((bigSep Finset.univ fun i : Fin 7 => semVal (tileOf d L, SemLoc.dma (semOf i)) 0)
        ∗ bigSep (ownCells (tileOf d L) \ Finset.univ.map (semCell d L)) fun g => semVal g 0) := by
  unfold SparseCore.Cfg.ownSems0
  rw [bigSep_sdiff_split (t := Finset.univ.map (semCell d L)), bigSep_map]
  · rfl
  · intro g hg
    obtain ⟨i, -, rfl⟩ := Finset.mem_map.mp hg
    exact mem_ownCells.mpr ⟨rfl, semOf_scoped i⟩

/-- The tile's buffers, at some contents, are those the program uses and the rest. -/
theorem bufs_split : (ownBufs (tileOf d L) : sProp 𝕄)
    = iprop((bigSep Finset.univ fun i : Fin 10 => iprop(∃ f, (tileOf d L).loc (bufOf i) ↦{fullShare} f))
        ∗ bigSep (ownRefs (tileOf d L).2 \ Finset.univ.map (bufCell d L)) fun b => iprop(∃ f, ((d, b) : Loc nD τ sig) ↦{fullShare} f)) := by
  unfold SparseCore.Cfg.ownBufs
  rw [bigSep_sdiff_split (t := Finset.univ.map (bufCell d L)), bigSep_map]
  · rfl
  · intro g hg
    obtain ⟨i, -, rfl⟩ := Finset.mem_map.mp hg
    exact SparseCore.Cfg.mem_ownRefs_of_owner (bufOf_owner d L i)

/-- Seven things, one by one. -/
theorem over_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [SparseCore.bigSep_insert' (by decide)]
  rw [bigSep_singleton]

/-- Ten things, one by one. -/
theorem over_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [SparseCore.bigSep_insert' (by decide)]
  rw [bigSep_singleton]

/-- A whole buffer at some contents is its memref, spare. -/
theorem spare_whole (c : Thread nD τ) {sp : Space} {s : Shape} {e : EltTy} (m : Memref sig c.2.kind sp s e) (hm : m.IsWhole) :
    iprop(∃ f, m.view.loc c ↦{fullShare} f) ⊣⊢ spare (F := F) c m := by
  constructor
  · iintro ⟨%f, H⟩
    iapply (spare_intro (F := F) c m _)
    iapply (holdsAt_of (F := F) c m fullShare f)
    rw [hm.set_eq_univ]
    iexact H
  · unfold spare holds holdsAt
    rw [hm.set_eq_univ]
    iintro ⟨%G, %f, -, H⟩
    iexists f; iexact H

/-- A buffer at some contents is spare. -/
theorem spare_ref (c : Thread nD τ) (b : Ref sig c.2.kind) : iprop(∃ f, c.loc b ↦{fullShare} f) ⊣⊢ spare (F := F) c (Memref.whole b) :=
  spare_whole (F := F) c (Memref.whole b) (Memref.isWhole_whole b)

/-! ## The task -/

variable (X : S425984.Idx → BitVec 32) (Wt : S250000x128.Idx → Elt F .f32) (f : S26x32x16384.Idx → Elt F .f32) (qx qw : PosShare TreeShare)

/-- The tile's blocks of the output, at the contents `f`. -/
def tileOut (g : S26x32x16384.Idx → Elt F .f32) : sProp 𝕄 := bigSep (Finset.range 104) fun n => block d L n g

/-- At the start the whole of the tile's output is to be written. -/
theorem out_todo : tileOut d L f = todoFrom d L f 0 := by
  unfold tileOut todoFrom; rw [Finset.range_eq_Ico]

/-- With all 104 chunks written the tile's output is finished. -/
theorem out_done : doneTo d L X Wt 104 = tileOut d L (outOf X Wt) := rfl

/-- What the tile is handed and hands back: its shares of the list and of the table, its blocks of the output. -/
def task (g : S26x32x16384.Idx → Elt F .f32) : sProp 𝕄 :=
  iprop((xV.view.loc (tileOf d L) ↦{qx} X) ∗ (wV.view.loc (tileOf d L) ↦{qw} Wt) ∗ tileOut d L g)

/-- Holding a share of a buffer is holding the view of all of it. -/
theorem whole_held (c : Thread nD τ) {sp : Space} {s : Shape} {e : EltTy} (m : Memref sig c.2.kind sp s e) (hm : m.IsWhole) (q : PosShare TreeShare)
    (g : Buf (Elt F) (m.view.loc c)) : (m.view.loc c ↦{q} g : sProp 𝕄) ⊣⊢ holdsAt c m q (m.view.read (Elt F) g) := by
  have h := hm.set_eq_univ
  constructor
  · have := holdsAt_of (F := F) c m q g
    rwa [h] at this
  · have := holdsAt_to (F := F) c m q g
    rwa [h] at this

/-- The tile's share of the list, as its view. -/
theorem list_held : (xV.view.loc (tileOf d L) ↦{qx} X : sProp 𝕄) ⊣⊢ holdsAt (F := F) (tileOf d L) xV qx X := by
  have h := whole_held (F := F) (tileOf d L) xV (Memref.isWhole_whole _) qx X
  rwa [show xV.view.read (Elt F) X = X from View.read_whole _ _] at h

/-- The tile's share of the table, as its view. -/
theorem table_held : (wV.view.loc (tileOf d L) ↦{qw} Wt : sProp 𝕄) ⊣⊢ holdsAt (F := F) (tileOf d L) wV qw Wt := by
  have h := whole_held (F := F) (tileOf d L) wV (Memref.isWhole_whole _) qw Wt
  rwa [show wV.view.read (Elt F) Wt = Wt from View.read_whole _ _] at h

/-- The table as the indirect copies read it is the whole table. -/
theorem table_whole : holdsAt (F := F) (tileOf d L) wV qw Wt
    ⊢ iprop(holdsAt (tileOf d L) wS qw Wt ∗ (holdsAt (tileOf d L) wS qw Wt -∗ holdsAt (F := F) (tileOf d L) wV qw Wt)) := by
  have h := holdsAt_part (F := F) (tileOf d L) wV (Rect.unit (s := S250000x128) ![0, 0] S250000x128.size inb_S250000x128_S250000x128_0_0) (fun _ => rfl) qw Wt
  rwa [show (fun x => Wt ((Rect.unit (s := S250000x128) ![0, 0] S250000x128.size inb_S250000x128_S250000x128_0_0).emb x)) = Wt from
    funext fun x => congrArg Wt (funext fun a => Fin.ext (by
      show ![0, 0] a + 1 * (x a).val = (x a).val
      match a with
      | 0 => show 0 + 1 * (x 0).val = (x 0).val; omega
      | 1 => show 0 + 1 * (x 1).val = (x 1).val; omega))] at h

variable (O : CellTallies nD τ sig (HIx 1)) (W : Waits sig (HIx 1))

variable {X}

/-- The ten buffers, each spare. -/
def spares : sProp 𝕄 :=
  iprop(spare (F := F) (tileOf d L) ixA ∗ spare (F := F) (tileOf d L) ixB ∗ spare (F := F) (tileOf d L) rwA ∗ spare (F := F) (tileOf d L) rwB
    ∗ spare (F := F) (tileOf d L) lnA ∗ spare (F := F) (tileOf d L) lnB ∗ spare (F := F) (tileOf d L) tbA ∗ spare (F := F) (tileOf d L) tbB
    ∗ spare (F := F) (tileOf d L) otA ∗ spare (F := F) (tileOf d L) otB)

/-- The ten buffers at some contents are the spare ones. -/
theorem bufs_spare : (bigSep Finset.univ fun i : Fin 10 => (iprop(∃ f, (tileOf d L).loc (bufOf i) ↦{fullShare} f) : sProp 𝕄)) = spares d L := by
  rw [bigSep_congr fun i _ => BI.Entails.antisymm (spare_ref (F := F) (tileOf d L) (bufOf i)).1 (spare_ref (F := F) (tileOf d L) (bufOf i)).2, over_ten]
  rfl

/-- The seven semaphores at zero. -/
def zeros : sProp 𝕄 := bigSep Finset.univ fun i : Fin 7 => semVal (tileOf d L, SemLoc.dma (semOf i)) 0

/-- The buffers and semaphores, with the shares, are the state at rest, -/
theorem rest_of : iprop(Transfers.MayWaits (tileOf d L) (default : HIx 1) O ∗ holdsAt (F := F) (tileOf d L) xV qx X ∗ holdsAt (F := F) (tileOf d L) wS qw Wt
      ∗ spares d L ∗ zeros d L ∗ owed (tileOf d L) O W) ⊢ atRest d L Wt qx qw O W X := by
  unfold spares zeros atRest base idle
  rw [over_seven]
  iintro ⟨Hmw, Hx, Hw, ⟨B0, B1, B2, B3, B4, B5, B6, B7, B8, B9⟩, ⟨S0, S1, S2, S3, S4, S5, S6⟩, HO⟩
  ihave Hw := (holdsAt_halves (F := F) (tileOf d L) wS qw Wt) $$ Hw
  icases Hw with ⟨Hwa, Hwb⟩
  isplitl [Hmw Hx B0 B1 S0 S1 S2]
  · isplitl [Hmw]; · iexact Hmw
    isplitl [Hx]; · iexact Hx
    isplitl [B0]; · iexact B0
    isplitl [B1]; · iexact B1
    isplitl [S0]; · iexact S0
    isplitl [S1]; · iexact S1
    iexact S2
  isplitl [HO]; · iexact HO
  isplitl [B6 Hwa B2 S3 B4]
  · isplitl [B6]; · iexact B6
    isplitl [Hwa]; · iexact Hwa
    isplitl [B2]; · iexact B2
    isplitl [S3]; · iexact S3
    iexact B4
  isplitl [B7 Hwb B3 S4 B5]
  · isplitl [B7]; · iexact B7
    isplitl [Hwb]; · iexact Hwb
    isplitl [B3]; · iexact B3
    isplitl [S4]; · iexact S4
    iexact B5
  isplitl [B8 S5]
  · isplitl [B8]; · iexact B8
    iexact S5
  isplitl [B9]; · iexact B9
  iexact S6

/-- and the state at rest gives them back. -/
theorem rest_to : atRest d L Wt qx qw O W X ⊢ iprop(holdsAt (F := F) (tileOf d L) xV qx X ∗ holdsAt (F := F) (tileOf d L) wS qw Wt
      ∗ spares d L ∗ zeros d L ∗ owed (tileOf d L) O W) := by
  unfold spares zeros atRest base idle
  rw [over_seven]
  iintro ⟨⟨-, Hx, B0, B1, S0, S1, S2⟩, HO, ⟨B6, Hwa, B2, S3, B4⟩, ⟨B7, Hwb, B3, S4, B5⟩, ⟨B8, S5⟩, B9, S6⟩
  isplitl [Hx]; · iexact Hx
  isplitl [Hwa Hwb]
  · iapply (holdsAt_join (F := F) (tileOf d L) wS qw Wt)
    isplitl [Hwa] <;> iassumption
  isplitl [B0 B1 B2 B3 B4 B5 B6 B7 B8 B9]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexact HO

/-- The task, from what the launch hands out to what it takes back. -/
theorem task_run (hX : InRange X) (hO : ∀ g, O g none = 0) :
    iprop(levAts (K (F := F)).L (K (F := F)).lev ∗ emp ∗ task d L X Wt qx qw f
        ∗ scopedBufs (tileOf d L) ∗ scopedSems0 (tileOf d L) ∗ owes (tileOf d L) O W)
      ⊢ runs (tileOf d L) (bodyP L)
          fun _ => iprop(task d L X Wt qx qw (outOf X Wt) ∗ scopedBufs (tileOf d L) ∗ scopedSems0 (tileOf d L)
            ∗ ∃ W', ⌜∀ p ∈ W', p ∈ W ∨ p.2 = none⌝ ∗ owes (tileOf d L) O W') := by
  rw [(K (F := F)).scopedBufs_V facts, SparseCore.Cfg.scopedSems0_V (Val := Elt F), sems_split, bufs_split]
  unfold task
  iintro ⟨#Hlv, -, ⟨Hx, Hw, Ho⟩, ⟨B, Hbufs⟩, ⟨S, Hsems⟩, HO⟩
  ihave Hmw := (show levAts (K (F := F)).L (K (F := F)).lev ⊢ Transfers.MayWaits (tileOf d L) (default : HIx 1) O from
    (K (F := F)).mayWaits_none (thr := tileOf d L) hO) $$ Hlv
  ihave Hx := (list_held d L X qx).1 $$ Hx
  ihave Hw := (table_held d L Wt qw).1 $$ Hw
  ihave Hw := (table_whole d L Wt qw) $$ Hw
  icases Hw with ⟨Hw, Hback⟩
  ihave B := (Entails.of_eq (bufs_spare d L)) $$ B
  ihave HO := (owed_intro (F := F) (tileOf d L) O W) $$ HO
  ihave Hrest := (rest_of d L (X := X) Wt qx qw O W) $$ [Hmw Hx Hw B S HO]
  · isplitl [Hmw]; · iexact Hmw
    isplitl [Hx]; · iexact Hx
    isplitl [Hw]; · iexact Hw
    isplitl [B]; · iexact B
    isplitl [S]; · unfold zeros; iexact S
    iexact HO
  ihave H := (tile_run d L Wt f qx qw O W hX) $$ [Hrest Ho]
  · isplitl [Hrest]; · iexact Hrest
    rw [← out_todo]; iexact Ho
  iapply (wp_wand_r frame (wpE (defs₀ (F := F)) 𝒱₀ (tileOf d L) none) (Q := fun _ => iprop(atRest d L Wt qx qw O W X ∗ doneTo d L X Wt 104)))
  isplitl [H]; · iexact H
  iintro %_ ⟨Hrest, Ho⟩
  ihave Hrest := (rest_to d L (X := X) Wt qx qw O W) $$ Hrest
  icases Hrest with ⟨Hx, Hw, B, S, HO⟩
  ihave Hw := Hback $$ Hw
  isplitl [Hx Hw Ho]
  · isplitl [Hx]; · iapply (list_held d L X qx).2 $$ Hx
    isplitl [Hw]; · iapply (table_held d L Wt qw).2 $$ Hw
    rw [← out_done]; iexact Ho
  isplitl [B Hbufs]
  · isplitl [B]; · iapply (Entails.of_eq (bufs_spare d L).symm) $$ B
    iexact Hbufs
  isplitl [S Hsems]
  · isplitl [S]
    · conv in zeros d L => unfold zeros
      iexact S
    iexact Hsems
  conv in owed (tileOf d L) O W => unfold owed
  iexact HO

end Cert.Proof.Lookup

end
-- ==== Proof.Launch.lean ====
/-
  What the call's handshakes carry: each SparseCore its shares of the list and the table and its tiles' blocks of the
  output, each tile its task.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Tile `s` of SparseCore `c`. -/
def tileAt (c : Fin (grid0.bound 0)) (s : Fin (grid0.bound 1)) : grid0.Coords :=
  fun | 0 => c | 1 => s | ⟨_ + 2, h⟩ => absurd h (Nat.not_lt.2 (Nat.le_add_left _ _))

/-- The list, the table and the output in HBM. -/
abbrev xLoc (d : Dev nD) : Loc nD τ sig := (SparseCore.T d).loc main_v1
abbrev wLoc (d : Dev nD) : Loc nD τ sig := (SparseCore.T d).loc main_v2
abbrev oLoc (d : Dev nD) : Loc nD τ sig := (SparseCore.T d).loc main_v3

/-- SparseCore `c`'s share of what all read, and tile `s`'s share of that. -/
abbrev coreShare (c : Fin (grid0.bound 0)) : PosShare TreeShare := Transfers.shareTok fullShare (grid0.bound 0) c
abbrev tileShare (c : Fin (grid0.bound 0)) (s : Fin (grid0.bound 1)) : PosShare TreeShare := Transfers.shareTok (coreShare c) (grid0.bound 1) s

variable (X : Dev nD → S425984.Idx → BitVec 32) (Wt : Dev nD → S250000x128.Idx → Elt F .f32) (f : Dev nD → S26x32x16384.Idx → Elt F .f32)

/-- What SparseCore `c` is handed and hands back. -/
def coreTask (d : Dev nD) (c : Fin (grid0.bound 0)) (g : S26x32x16384.Idx → Elt F .f32) : sProp 𝕄 :=
  iprop((xLoc d ↦{coreShare c} X d) ∗ (wLoc d ↦{coreShare c} Wt d) ∗ bigSep Finset.univ fun s : Fin (grid0.bound 1) => tileOut d (tileAt c s) g)

/-- What its tile `s` is handed and hands back. -/
def tileTask (d : Dev nD) (c : Fin (grid0.bound 0)) (s : Fin (grid0.bound 1)) (g : S26x32x16384.Idx → Elt F .f32) : sProp 𝕄 :=
  task d (tileAt c s) (X d) (Wt d) (tileShare c s) (tileShare c s) g

/-- What a core is given can be stored in a handshake. -/
instance core_storable (d : Dev nD) (c : Fin (grid0.bound 0)) (g : S26x32x16384.Idx → Elt F .f32) : BI.Storable (upEmb : UEmb _ 𝕄) (coreTask X Wt d c g) := by
  unfold coreTask tileOut block; infer_instance
/-- What a tile is given can be stored in a handshake. -/
instance tile_storable (d : Dev nD) (c : Fin (grid0.bound 0)) (s : Fin (grid0.bound 1)) (g : S26x32x16384.Idx → Elt F .f32) :
    BI.Storable (upEmb : UEmb _ 𝕄) (tileTask X Wt d c s g) := by
  unfold tileTask task tileOut block; infer_instance

/-- The output before the call and after. -/
def P : (K (F := F)).Pay (nD := nD) (Val := Elt F) (Name := ℕ) (U := UU) where
  st := fun q d c => match q with | 0 => coreTask X Wt d c (f d)
  dn := fun q d c => match q with | 0 => coreTask X Wt d c (outOf (X d) (Wt d))
  go := fun q d c s => match q with | 0 => tileTask X Wt d c s (f d)
  td := fun q d c s => match q with | 0 => tileTask X Wt d c s (outOf (X d) (Wt d))
  x := fun _ _ => iprop(emp)

/-- Everything the call passes on can be stored in a handshake. -/
instance P_storable : (P X Wt f).IsStorable where
  st q d c := match q with | 0 => core_storable X Wt d c (f d)
  dn q d c := match q with | 0 => core_storable X Wt d c (outOf (X d) (Wt d))
  go q d c s := match q with | 0 => tile_storable X Wt d c s (f d)
  td q d c s := match q with | 0 => tile_storable X Wt d c s (outOf (X d) (Wt d))

/-- A tile's thread runs the kernel's body at its own coordinates. -/
theorem vector_defs (c : Fin τ.nSC) (s : Fin τ.nSub) :
    defs₀ (F := F) (.scVector c s) 0 () = SparseCore.onTile hcore0 hsub0 (fun c s => bodyP (tileAt c s)) ⟨⟩ c s := rfl

/-- A bound on the recorded waits stays true when it allows the call's own too. -/
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono (BI.Entails.refl _) <| sep_mono (BI.Entails.refl _) <| sep_mono (BI.Entails.refl _) <| by
    iintro ⟨%W', %hW', HO⟩
    iexists W'; isplitr
    · ipureintro; exact fun p hp => (hW' p hp).imp_right Or.inl
    · iexact HO

set_option maxRecDepth 16384 in
/-- Every tile's program does its task. -/
theorem tile_obligation (hX : ∀ d, InRange (X d)) : (K (F := F)).TileObl (D (F := F)) 𝒱 (P X Wt f) v₀ 0 := by
  intro d c i O W hO _ _
  simp only [show (P X Wt f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_defs]; simp only [SparseCore.onTile, hci, and_self, ↓reduceDIte]
  exact (task_run d (tileAt ⟨_, hci.1⟩ ⟨_, hci.2⟩) (Wt d) (f d) _ _ O W (hX d) hO).trans (wp_mono frame _ _ fun _ => waits_widen)

/-- A SparseCore's shares are its tiles' and a remainder it keeps meanwhile. -/
theorem core_split (d : Dev nD) (c : Fin (grid0.bound 0)) (g : S26x32x16384.Idx → Elt F .f32) :
    coreTask X Wt d c g ⊣⊢ iprop(((xLoc d ↦{Transfers.shareDrop (coreShare c) (grid0.bound 1)} X d) ∗ (wLoc d ↦{Transfers.shareDrop (coreShare c) (grid0.bound 1)} Wt d))
      ∗ bigSep Finset.univ fun s : Fin (grid0.bound 1) => tileTask X Wt d c s g) := by
  unfold tileTask task coreTask
  rw [bigSep_sep', bigSep_sep']
  have hx := Transfers.pointsTo_toks (Val := Elt F) (Ix := HIx 1) (Name := ℕ) (U := UU) (Lvl := ℕ) (ℓ := xLoc d) (S := Finset.univ) (f := X d) (coreShare c) (grid0.bound 1)
  have hw := Transfers.pointsTo_toks (Val := Elt F) (Ix := HIx 1) (Name := ℕ) (U := UU) (Lvl := ℕ) (ℓ := wLoc d) (S := Finset.univ) (f := Wt d) (coreShare c) (grid0.bound 1)
  constructor
  · iintro ⟨Hx, Hw, Ho⟩
    ihave Hx := hx.1 $$ Hx
    ihave Hw := hw.1 $$ Hw
    icases Hx with ⟨Hxd, Hx⟩
    icases Hw with ⟨Hwd, Hw⟩
    isplitl [Hxd Hwd]; · isplitl [Hxd] <;> iassumption
    isplitl [Hx]; · iexact Hx
    isplitl [Hw] <;> iassumption
  · iintro ⟨⟨Hxd, Hwd⟩, Hx, Hw, Ho⟩
    isplitl [Hxd Hx]
    · iapply hx.2
      isplitl [Hxd] <;> iassumption
    isplitl [Hwd Hw]
    · iapply hw.2
      isplitl [Hwd] <;> iassumption
    iexact Ho

/-- A SparseCore deals its tiles their tasks and gathers them again. -/
theorem deal : (K (F := F)).VecSplit' (P X Wt f) 0 := by
  intro d c
  show coreTask X Wt d c (f d) ⊢ |={Set.univ}=> iprop((bigSep Finset.univ fun s : Fin (grid0.bound 1) => tileTask X Wt d c s (f d))
    ∗ ((bigSep Finset.univ fun s : Fin (grid0.bound 1) => tileTask X Wt d c s (outOf (X d) (Wt d))) -∗ coreTask X Wt d c (outOf (X d) (Wt d))))
  iintro H
  ihave H := (core_split X Wt d c (f d)).1 $$ H
  icases H with ⟨Hkept, H⟩
  imodintro
  isplitl [H]; · iexact H
  iintro H
  iapply (core_split X Wt d c (outOf (X d) (Wt d))).2
  isplitl [Hkept]; · iexact Hkept
  iexact H

end Cert.Proof.Lookup

end
-- ==== Proof.Partition.lean ====
/-
  The output is the tiles' blocks: a core's columns are those whose residue modulo 1024 lies in its half, a tile's are
  512 of them in a row, and a tile's 104 blocks are 26 planes by four groups of 128 columns.
-/
module

public import proofs.«01_k».proof.Proof.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The 512 columns from `b`. -/
def columns (b : ℕ) : Finset S26x32x16384.Idx := Finset.univ.filter fun y => b ≤ (y 2).val ∧ (y 2).val < b + 512

/-- SparseCore `c`'s columns. -/
def coreColumns (c : ℕ) : Finset S26x32x16384.Idx := Finset.univ.filter fun y => (y 2).val % 1024 / 512 = c

/-- An output element lies in one of 26 planes. -/
theorem plane_lt (y : S26x32x16384.Idx) : (y 0).val < 26 := (y 0).isLt
/-- An output element lies in one of 16384 columns. -/
theorem column_lt (y : S26x32x16384.Idx) : (y 2).val < 16384 := (y 2).isLt

/-- Two sets are disjoint when no element lies in both. -/
theorem apart {α : Type} {A B : Finset α} (h : ∀ y, y ∈ A → y ∈ B → False) : Disjoint A B :=
  Finset.disjoint_left.2 fun {y} hA hB => h y hA hB

/-- The blocks of the 104 chunks make up the tile's columns. -/
theorem blocks_cover (b : ℕ) : (Finset.range 104).biUnion (blockSet b) = columns b := by
  ext y
  have h0 := plane_lt y
  simp only [Finset.mem_biUnion, Finset.mem_range, blockSet, columns, Finset.mem_filter, Finset.mem_univ, true_and]
  constructor
  · rintro ⟨n, _, _, h1, h2⟩; omega
  · rintro ⟨h1, h2⟩
    exact ⟨4 * (y 0).val + ((y 2).val - b) / 128, by omega, by omega, by omega, by omega⟩

/-- The blocks of different chunks are disjoint. -/
theorem blocks_apart (b : ℕ) : ∀ n ∈ Finset.range 104, ∀ k ∈ Finset.range 104, n ≠ k → Disjoint (blockSet b n) (blockSet b k) := by
  intro n _ k _ hne
  refine apart fun y hn hk => hne ?_
  simp only [blockSet, Finset.mem_filter, Finset.mem_univ, true_and] at hn hk
  omega

/-- The tile's columns are the 512 from `1024 s + 512 c` on. -/
theorem mem_tile (c : Fin (grid0.bound 0)) (s : Fin (grid0.bound 1)) (y : S26x32x16384.Idx) :
    y ∈ columns (colAt (tileAt c s)) ↔ 1024 * s.val + 512 * c.val ≤ (y 2).val ∧ (y 2).val < 1024 * s.val + 512 * c.val + 512 := by
  rw [columns, Finset.mem_filter]
  exact and_iff_right (Finset.mem_univ y)

/-- The core's columns are those in its half of every 1024. -/
theorem mem_core (c : ℕ) (y : S26x32x16384.Idx) : y ∈ coreColumns c ↔ (y 2).val % 1024 / 512 = c := by
  rw [coreColumns, Finset.mem_filter]
  exact and_iff_right (Finset.mem_univ y)

/-- There are two cores. -/
theorem core_lt (c : Fin (grid0.bound 0)) : c.val < 2 := c.isLt
/-- A core has sixteen tiles. -/
theorem sub_lt (s : Fin (grid0.bound 1)) : s.val < 16 := s.isLt

/-- The columns of a core's tiles make up the core's columns. -/
theorem tiles_cover (c : Fin (grid0.bound 0)) :
    (Finset.univ : Finset (Fin (grid0.bound 1))).biUnion (fun s => columns (colAt (tileAt c s))) = coreColumns c.val := by
  ext y
  have h2 := column_lt y
  have hc := core_lt c
  rw [Finset.mem_biUnion, mem_core]
  constructor
  · rintro ⟨s, _, h⟩
    rw [mem_tile] at h
    omega
  · intro h
    refine ⟨⟨(y 2).val / 1024, show _ < 16 by omega⟩, Finset.mem_univ _, ?_⟩
    rw [mem_tile]
    show 1024 * ((y 2).val / 1024) + 512 * c.val ≤ _ ∧ _ < 1024 * ((y 2).val / 1024) + 512 * c.val + 512
    omega

/-- The columns of different tiles of a core are disjoint. -/
theorem tiles_apart (c : Fin (grid0.bound 0)) : ∀ s ∈ (Finset.univ : Finset (Fin (grid0.bound 1))), ∀ t ∈ (Finset.univ : Finset (Fin (grid0.bound 1))),
    s ≠ t → Disjoint (columns (colAt (tileAt c s))) (columns (colAt (tileAt c t))) := by
  intro s _ t _ hne
  refine apart fun y hs ht => hne (Fin.ext ?_)
  have hc := core_lt c
  rw [mem_tile] at hs ht
  omega

/-- The columns of the two cores make up the output. -/
theorem cores_cover : (Finset.univ : Finset (Fin (grid0.bound 0))).biUnion (fun c => coreColumns c.val) = Finset.univ := by
  ext y
  rw [Finset.mem_biUnion]
  exact iff_of_true ⟨⟨(y 2).val % 1024 / 512, show _ < 2 by omega⟩, Finset.mem_univ _, (mem_core _ y).2 rfl⟩ (Finset.mem_univ y)

/-- The columns of different cores are disjoint. -/
theorem cores_apart : ∀ c ∈ (Finset.univ : Finset (Fin (grid0.bound 0))), ∀ e ∈ (Finset.univ : Finset (Fin (grid0.bound 0))),
    c ≠ e → Disjoint (coreColumns c.val) (coreColumns e.val) := by
  intro c _ e _ hne
  refine apart fun y hc he => hne (Fin.ext ?_)
  rw [mem_core] at hc he
  exact hc.symm.trans he

/-- A tile's columns are its blocks. -/
theorem columns_blocks (d : Dev nD) (L : grid0.Coords) (g : Buf (Elt F) (oLoc d)) :
    (oLoc d ↦[columns (colAt L)]{fullShare} g : sProp 𝕄) = tileOut d L g := by
  rw [← blocks_cover]
  exact pointsTo_biUnion (ℓ := oLoc d) (Finset.range 104) (blockSet (colAt L)) (blocks_apart (colAt L))

/-- A core's columns are its tiles'. -/
theorem core_blocks (d : Dev nD) (c : Fin (grid0.bound 0)) (g : Buf (Elt F) (oLoc d)) :
    (oLoc d ↦[coreColumns c.val]{fullShare} g : sProp 𝕄) = bigSep Finset.univ fun s : Fin (grid0.bound 1) => tileOut d (tileAt c s) g := by
  rw [← tiles_cover, pointsTo_biUnion (ℓ := oLoc d) Finset.univ (fun s => columns (colAt (tileAt c s))) (tiles_apart c)]
  exact bigSep_congr fun s _ => columns_blocks d (tileAt c s) g

/-- The whole output is every tile's blocks. -/
theorem out_blocks (d : Dev nD) (g : Buf (Elt F) (oLoc d)) :
    (oLoc d ↦{fullShare} g : sProp 𝕄)
      = bigSep Finset.univ fun c : Fin (grid0.bound 0) => bigSep Finset.univ fun s : Fin (grid0.bound 1) => tileOut d (tileAt c s) g := by
  have h := pointsTo_biUnion (Ix := HIx 1) (Name := ℕ) (U := UU) (Lvl := ℕ) (ℓ := oLoc d) (q := fullShare) (f := g) Finset.univ
    (fun c : Fin (grid0.bound 0) => coreColumns c.val) cores_apart
  rw [cores_cover] at h
  exact h.trans (bigSep_congr fun c _ => core_blocks d c g)

variable (X : Dev nD → S425984.Idx → BitVec 32) (Wt : Dev nD → S250000x128.Idx → Elt F .f32)

/-- The list, the table and the output are the two cores' parts and a remainder that stays behind. -/
theorem cores_split (d : Dev nD) (g : S26x32x16384.Idx → Elt F .f32) :
    iprop((xLoc d ↦{fullShare} X d) ∗ (wLoc d ↦{fullShare} Wt d) ∗ oLoc d ↦{fullShare} g)
      ⊣⊢ iprop(((xLoc d ↦{Transfers.shareDrop fullShare (grid0.bound 0)} X d) ∗ (wLoc d ↦{Transfers.shareDrop fullShare (grid0.bound 0)} Wt d))
        ∗ bigSep Finset.univ fun c : Fin (grid0.bound 0) => coreTask X Wt d c g) := by
  unfold coreTask
  rw [bigSep_sep', bigSep_sep', out_blocks]
  have hx := Transfers.pointsTo_toks (Val := Elt F) (Ix := HIx 1) (Name := ℕ) (U := UU) (Lvl := ℕ) (ℓ := xLoc d) (S := Finset.univ) (f := X d) fullShare (grid0.bound 0)
  have hw := Transfers.pointsTo_toks (Val := Elt F) (Ix := HIx 1) (Name := ℕ) (U := UU) (Lvl := ℕ) (ℓ := wLoc d) (S := Finset.univ) (f := Wt d) fullShare (grid0.bound 0)
  constructor
  · iintro ⟨Hx, Hw, Ho⟩
    ihave Hx := hx.1 $$ Hx
    ihave Hw := hw.1 $$ Hw
    icases Hx with ⟨Hxd, Hx⟩
    icases Hw with ⟨Hwd, Hw⟩
    isplitl [Hxd Hwd]; · isplitl [Hxd] <;> iassumption
    isplitl [Hx]; · iexact Hx
    isplitl [Hw] <;> iassumption
  · iintro ⟨⟨Hxd, Hwd⟩, Hx, Hw, Ho⟩
    isplitl [Hxd Hx]
    · iapply hx.2
      isplitl [Hxd] <;> iassumption
    isplitl [Hwd Hw]
    · iapply hw.2
      isplitl [Hwd] <;> iassumption
    iexact Ho

end Cert.Proof.Lookup

end
-- ==== Proof.Host.lean ====
/-
  The host's part — the list laid out field by field, the table in rows of 128, the call, and the output turned so that
  the batch comes first — and the whole program's run.
-/
module

public import proofs.«01_k».proof.Proof.Partition

@[expose] public section

noncomputable section

namespace Cert.Proof.Lookup

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-- The flat list of indices: the batch of one field after the other. -/
def listOf (A : S16384x26.Idx → BitVec 32) : S425984.Idx → BitVec 32 :=
  shapeCast S425984 (transpose S26x16384 [1, 0] A transposes_S16384x26_S26x16384_1_0) shapeCasts_S26x16384_S425984

/-- The embedding table, four rows of it in each of 128 entries. -/
def tableOf (B : S1000000x32.Idx → Elt F .f32) : S250000x128.Idx → Elt F .f32 := shapeCast S250000x128 B shapeCasts_S1000000x32_S250000x128

/-- The output with the batch first. -/
def turned (g : S26x32x16384.Idx → Elt F .f32) : S16384x26x32.Idx → Elt F .f32 :=
  transpose S16384x26x32 [2, 0, 1] g transposes_S26x32x16384_S16384x26x32_2_0_1

abbrev listOp : HloOp τ sig (Elt F) :=
  StableHlo.unary main_arg0 main_v0 (transpose S26x16384 [1, 0] · transposes_S16384x26_S26x16384_1_0)
abbrev flatOp : HloOp τ sig (Elt F) := StableHlo.reshape main_v0 main_v1 (rfl : (.i32 : EltTy) = .i32) shapeCasts_S26x16384_S425984
abbrev tableOp : HloOp τ sig (Elt F) := StableHlo.reshape main_arg1 main_v2 (rfl : (.f32 : EltTy) = .f32) shapeCasts_S1000000x32_S250000x128
abbrev turnOp : HloOp τ sig (Elt F) :=
  StableHlo.unary main_v3 main_v4 (transpose S16384x26x32 [2, 0, 1] · transposes_S26x32x16384_S16384x26x32_2_0_1)

/-- The host's own name of an array. -/
abbrev host (r : Ref sig .tc) : DevRef τ sig := Proc.devRef .tc r

/-- The host's arrays. -/
abbrev arrays : Finset (DevRef τ sig) := {host main_arg0, host main_arg1, host main_v0, host main_v1, host main_v2, host main_v3, host main_v4}

/-- Holding the program's arrays is holding each of them whole. -/
theorem arrays_held (d : Dev nD) (V : Valuation τ sig (Elt F)) :
    (held (T d) arrays V : sProp 𝕄) = iprop(((SparseCore.T d).loc main_arg0 ↦{fullShare} V (host main_arg0)) ∗ ((SparseCore.T d).loc main_arg1 ↦{fullShare} V (host main_arg1))
      ∗ ((SparseCore.T d).loc main_v0 ↦{fullShare} V (host main_v0)) ∗ (xLoc d ↦{fullShare} V (host main_v1)) ∗ (wLoc d ↦{fullShare} V (host main_v2))
      ∗ (oLoc d ↦{fullShare} V (host main_v3)) ∗ (SparseCore.T d).loc main_v4 ↦{fullShare} V (host main_v4)) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The buffers given at the launch are the program's arrays, each whole. -/
theorem arrays_unscoped (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_v0 ↦{fullShare} W main_v0) ∗ (xLoc d ↦{fullShare} W main_v1) ∗ (wLoc d ↦{fullShare} W main_v2)
      ∗ (oLoc d ↦{fullShare} W main_v3) ∗ (SparseCore.T d).loc main_v4 ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ) (ρ : Dev nD → PrngReg)

/-- The memory's two arguments, the list and the table made of them, and what the output array holds at first. -/
abbrev argX (d : Dev nD) : S16384x26.Idx → BitVec 32 := m ((SparseCore.T d).loc main_arg0)
abbrev argW (d : Dev nD) : S1000000x32.Idx → Elt F .f32 := m ((SparseCore.T d).loc main_arg1)
abbrev theList (d : Dev nD) : S425984.Idx → BitVec 32 := listOf (argX m d)
abbrev theTable (d : Dev nD) : S250000x128.Idx → Elt F .f32 := tableOf (argW m d)
abbrev unwritten (d : Dev nD) : S26x32x16384.Idx → Elt F .f32 := m (oLoc d)
abbrev after (d : Dev nD) : S26x32x16384.Idx → Elt F .f32 := outOf (theList m d) (theTable m d)

/-- The contents at launch, at the call, and after it. -/
def atLaunch (d : Dev nD) : Valuation τ sig (Elt F) := fun b => m (d, b)
def atCall (d : Dev nD) : Valuation τ sig (Elt F) := (tableOp (F := F)).result ((flatOp (F := F)).result ((listOp (F := F)).result (atLaunch m d)))
def atReturn (d : Dev nD) : Valuation τ sig (Elt F) := Function.update (atCall m d) (host main_v3) (after m d)

/-- At the launch the arrays hold what the memory does. -/
theorem launch_held (d : Dev nD) : (unscopedBufs d (fun b => m ((SparseCore.T d).loc b)) : sProp 𝕄) = held (T d) arrays (atLaunch m d) := by
  rw [arrays_unscoped, arrays_held]; rfl

/-- At the call the first argument is as it was. -/
theorem atCall_arg0 (d : Dev nD) : atCall m d (host main_arg0) = argX m d := by
  unfold atCall
  rw [StableHlo.reshape_result_ne _ _ _ _ _ _ _ (by decide), StableHlo.reshape_result_ne _ _ _ _ _ _ _ (by decide), StableHlo.unary_result_ne _ _ _ _ _ _ (by decide)]
  rfl

/-- At the call the second argument is as it was. -/
theorem atCall_arg1 (d : Dev nD) : atCall m d (host main_arg1) = argW m d := by
  unfold atCall
  rw [StableHlo.reshape_result_ne _ _ _ _ _ _ _ (by decide), StableHlo.reshape_result_ne _ _ _ _ _ _ _ (by decide), StableHlo.unary_result_ne _ _ _ _ _ _ (by decide)]
  rfl

/-- At the call the kernel's first operand is the list of indices. -/
theorem atCall_list (d : Dev nD) : atCall m d (host main_v1) = theList m d := by
  unfold atCall
  rw [StableHlo.reshape_result_ne _ _ _ _ _ _ _ (by decide), StableHlo.reshape_result, StableHlo.unary_result]
  rfl

/-- At the call the kernel's second operand is the table in rows of 128. -/
theorem atCall_table (d : Dev nD) : atCall m d (host main_v2) = theTable m d := by
  unfold atCall
  rw [StableHlo.reshape_result, StableHlo.reshape_result_ne _ _ _ _ _ _ _ (by decide), StableHlo.unary_result_ne _ _ _ _ _ _ (by decide)]
  rfl

/-- At the call the kernel's result is not yet written. -/
theorem atCall_out (d : Dev nD) : atCall m d (host main_v3) = unwritten m d := by
  unfold atCall
  rw [StableHlo.reshape_result_ne _ _ _ _ _ _ _ (by decide), StableHlo.reshape_result_ne _ _ _ _ _ _ _ (by decide), StableHlo.unary_result_ne _ _ _ _ _ _ (by decide)]
  rfl

/-- What the host holds at the call, array by array. -/
theorem call_held (d : Dev nD) :
    (held (T d) arrays ((tableOp (F := F)).result ((flatOp (F := F)).result ((listOp (F := F)).result (atLaunch m d)))) : sProp 𝕄)
      = iprop(((SparseCore.T d).loc main_arg0 ↦{fullShare} atCall m d (host main_arg0)) ∗ ((SparseCore.T d).loc main_arg1 ↦{fullShare} atCall m d (host main_arg1))
        ∗ ((SparseCore.T d).loc main_v0 ↦{fullShare} atCall m d (host main_v0)) ∗ (xLoc d ↦{fullShare} theList m d) ∗ (wLoc d ↦{fullShare} theTable m d)
        ∗ (oLoc d ↦{fullShare} unwritten m d) ∗ (SparseCore.T d).loc main_v4 ↦{fullShare} atCall m d (host main_v4)) := by
  rw [← atCall_list, ← atCall_table, ← atCall_out]
  exact arrays_held d (atCall m d)

/-- The call changes the output alone. -/
theorem atReturn_other (d : Dev nD) (r : Ref sig .tc) (h : host r ≠ host main_v3) : atReturn m d (host r) = atCall m d (host r) := Function.update_of_ne h _ _
/-- After the call the kernel's result holds the entries named. -/
theorem atReturn_out (d : Dev nD) : atReturn m d (host main_v3) = after m d := Function.update_self _ _ _

/-- What the program leaves: its arguments, and the looked-up entries with the batch first. -/
def FIN (d : Dev nD) : sProp 𝕄 :=
  iprop(((SparseCore.T d).loc main_arg0 ↦{fullShare} argX m d) ∗ ((SparseCore.T d).loc main_arg1 ↦{fullShare} argW m d)
    ∗ (SparseCore.T d).loc main_v4 ↦{fullShare} turned (after m d))

/-- After the last transpose the arrays are as the claim wants them. -/
theorem final_held (d : Dev nD) : (held (T d) arrays ((turnOp (F := F)).result (atReturn m d)) : sProp 𝕄) ⊢ FIN m d := by
  rw [arrays_held, StableHlo.unary_result_ne _ _ _ _ _ _ (show main_arg0 ≠ main_v4 by decide), StableHlo.unary_result_ne _ _ _ _ _ _ (show main_arg1 ≠ main_v4 by decide),
    StableHlo.unary_result main_v3 main_v4, atReturn_other m d main_arg0 (by decide), atReturn_other m d main_arg1 (by decide), atReturn_out, atCall_arg0, atCall_arg1]
  unfold FIN
  iintro ⟨Hx, Hw, -, -, -, -, Ho⟩
  isplitl [Hx]; · iexact Hx
  isplitl [Hw]; · iexact Hw
  iexact Ho

/-- The payload at this memory. -/
abbrev PM : (K (F := F)).Pay (nD := nD) (Val := Elt F) (Name := ℕ) (U := UU) := P (theList m) (theTable m) (unwritten m)

/-- @main on a device. -/
theorem main_run (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := listOp) (S := arrays) (show ({host main_arg0, host main_v0} : Finset (DevRef τ sig)) ⊆ arrays by decide) (V := atLaunch m d)) $$ [Hb Hheld]
  · isplitl [Hb] <;> iassumption
  iintro ⟨Hb, Hheld⟩
  rw [wp_ret]; imodintro
  iapply (wp_hlo_within 𝒱 (SparseCore.T d) none Set.univ (op := flatOp) (S := arrays) (show ({host main_v0, host main_v1} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := tableOp) (S := arrays) (show ({host main_arg1, host main_v2} : Finset (DevRef τ sig)) ⊆ arrays by decide)) $$ [Hb Hheld]
  · isplitl [Hb] <;> iassumption
  iintro ⟨Hb, Hheld⟩
  rw [wp_ret]; imodintro
  ihave Hheld := (Entails.of_eq (call_held m d)) $$ Hheld
  icases Hheld with ⟨Ha, Hw0, Ht, Hx, Hw, Ho, Hr⟩
  ihave Hcores := (cores_split (theList m) (theTable m) d (unwritten m d)).1 $$ [Hx Hw Ho]
  · isplitl [Hx]; · iexact Hx
    isplitl [Hw]; · iexact Hw
    iexact Ho
  icases Hcores with ⟨Hkept, Hcores⟩
  iapply ((K (F := F)).wp_run (D (F := F)) 𝒱 (EH := EH) (P := PM m) κ d 0) $$ [Hst Hcores Hkept Hb Ha Hw0 Ht Hr Hts]
  isplitr; · iexact Hctx
  isplitl [Hst]; · iexact Hst
  isplitl [Hcores]; · iexact Hcores
  iintro ⟨Hst, Hcores⟩
  ihave Hback := (cores_split (theList m) (theTable m) d (after m d)).2 $$ [Hkept Hcores]
  · isplitl [Hkept]; · iexact Hkept
    iexact Hcores
  icases Hback with ⟨Hx, Hw, Ho⟩
  iapply (wp_hlo_within 𝒱 (SparseCore.T d) none Set.univ (op := turnOp) (S := arrays) (show ({host main_v3, host main_v4} : Finset (DevRef τ sig)) ⊆ arrays by decide) (V := atReturn m d)) $$ [Hb Ha Hw0 Ht Hx Hw Ho Hr]
  · isplitl [Hb]; · iexact Hb
    rw [arrays_held, atReturn_other m d main_arg0 (by decide), atReturn_other m d main_arg1 (by decide), atReturn_other m d main_v0 (by decide),
      atReturn_other m d main_v1 (by decide), atReturn_other m d main_v2 (by decide), atReturn_other m d main_v4 (by decide), atReturn_out, atCall_list, atCall_table]
    isplitl [Ha]; · iexact Ha
    isplitl [Hw0]; · iexact Hw0
    isplitl [Ht]; · iexact Ht
    isplitl [Hx]; · iexact Hx
    isplitl [Hw]; · iexact Hw
    isplitl [Ho]; · iexact Ho
    iexact Hr
  iintro ⟨Hb, Hheld⟩
  ihave Hfin := (final_held m d) $$ Hheld
  rw [wp_ret]; imodintro; imodintro
  isplitl [Hst]; · iexact Hst
  isplitl [Hfin]; · iexact Hfin
  isplitl [Hb] <;> iassumption

/-- The memory at the end holds the arguments and the looked-up entries. -/
def ended (d : Dev nD) (s : Phys nD τ sig (Elt F)) : Prop :=
  s.mem.mem ((SparseCore.T d).loc main_arg0) = argX m d ∧ s.mem.mem ((SparseCore.T d).loc main_arg1) = argW m d
    ∧ s.mem.mem ((SparseCore.T d).loc main_v4) = turned (after m d)

set_option maxRecDepth 16384 in
/-- The arrays held at the end say what the final memory is. -/
theorem ended_of (d : Dev nD) (s : Phys nD τ sig (Elt F)) : iprop(FIN m d ∗ SI s) ⊢ (⌜ended m d s⌝ : sProp 𝕄) := by
  unfold FIN
  iintro ⟨⟨Ha, Hw, Ho⟩, HSI⟩
  ihave H := (persistent_entails_right (SI_pointsTo_agree (st := s) (ℓ := (SparseCore.T d).loc main_arg0) (I := Finset.univ) (q := fullShare) (f := argX m d))) $$ [HSI Ha]
  · isplitl [HSI] <;> iassumption
  icases H with ⟨%ha, HSI, -⟩
  ihave H := (persistent_entails_right (SI_pointsTo_agree (st := s) (ℓ := (SparseCore.T d).loc main_arg1) (I := Finset.univ) (q := fullShare) (f := argW m d))) $$ [HSI Hw]
  · isplitl [HSI] <;> iassumption
  icases H with ⟨%hw, HSI, -⟩
  ihave H := (SI_pointsTo_agree (st := s) (ℓ := (SparseCore.T d).loc main_v4) (I := Finset.univ) (q := fullShare) (f := turned (after m d))) $$ [HSI Ho]
  · isplitl [HSI] <;> iassumption
  icases H with %ho
  ipureintro
  exact ⟨funext fun i => ha i (Finset.mem_univ i), funext fun i => hw i (Finset.mem_univ i), funext fun i => ho i (Finset.mem_univ i)⟩

/-- What the run ends in: on every device the arguments and the looked-up entries, and every semaphore at zero. -/
def QC : PUnit × MemSt nD τ sig (Elt F) → Prop := fun r =>
  (∀ c : Dev nD, r.2.mem ((SparseCore.T c).loc main_arg0) = argX m c ∧ r.2.mem ((SparseCore.T c).loc main_arg1) = argW m c
    ∧ r.2.mem ((SparseCore.T c).loc main_v4) = turned (after m c)) ∧ r.2.sem = fun _ => 0

/-- The certificate's ghost state at launch: the handshakes'. -/
def u₀ : UU := (initOf (K (F := F)).hsCells (K (F := F)).hsToks, 1)

/-- Nothing, however often, is nothing. -/
theorem nothing {I : Type} (s : Finset I) : (bigSep s fun _ => iprop(emp)) = (iprop(emp) : sProp 𝕄) := bigSep_emp_const s

/-- The launch's initial resources give each thread its own. -/
theorem handshakes : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  have hnone : (bigSep Finset.univ fun thr : Thread nD τ => bigSep Finset.univ fun q : Fin 1 => (PM m).x q thr) = (iprop(emp) : sProp 𝕄) := by
    show (bigSep Finset.univ fun _ : Thread nD τ => bigSep Finset.univ fun _ : Fin 1 => iprop(emp)) = _
    rw [nothing, nothing]
  rw [hnone, nothing]
  unfold u₀
  iintro H
  ihave H := (ownU_pair (initOf (K (F := F)).hsCells (K (F := F)).hsToks) (1 : Counters)) $$ H
  icases H with ⟨H, -⟩
  imodintro
  isplitl [H]; · iexact H
  isplitr <;> iempintro

/-- The program's run, over any float values. -/
theorem run_main [∀ e, Nonempty (Elt F e)] (hX : ∀ d, InRange (theList m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tile_obligation (theList m) (theTable m) (unwritten m) hX)
    (fun q _ => match q with | 0 => SparseCore.Cfg.VecSplit.of_plain (deal (theList m) (theTable m) (unwritten m)))
    m ρ main (fun _ => iprop(emp)) (FIN m) (u₀ (F := F)) (sep_elim_left.trans (handshakes m)) (main_run m ρ) (ended m) (ended_of m) (QC m) (fun _ h hz => ⟨h, hz⟩)

end Cert.Proof.Lookup

end
-- ==== Proof.Meaning.lean ====
/-
  What the kernel leaves, read at an index: for batch entry `i` and field `j`, row `x[i, j]` of the embedding table.
-/
module

public import proofs.«01_k».proof.Proof.Host
public import Idealize.ShloMosaic.Lib.ReduceAll

@[expose] public section

noncomputable section

namespace Cert.Proof.Lookup

open Cert.KernelIdeal Cert.KernelIdeal.Gen Cert.KernelIdeal.Facts
open Idealize.ShloMosaic

variable {F : FTy → Type} [FloatOps F]

/-- The array of indices is not empty. -/
theorem size_arg_pos : ∀ a, 0 < S16384x26.size a := by decide
/-- The table is not empty. -/
theorem size_rows_pos : ∀ a, 0 < S1000000x32.size a := by decide

variable (A : S16384x26.Idx → BitVec 32) (B : S1000000x32.Idx → Elt F .f32)

/-- The embedding lookup: at batch entry `i`, field `j` and lane `k`, lane `k` of the row that `A[i, j]` names. -/
def lookup : S16384x26x32.Idx → Elt F .f32 := fun y =>
  B (idxAt S1000000x32 size_rows_pos ![(A (idxAt S16384x26 size_arg_pos ![(y 0).val, (y 1).val])).toNat, (y 2).val])

/-- Every index names a row of the embedding table. -/
def Named : Prop := ∀ j, (A j).toNat < 1000000

/-- The flat list's word for field `j` and batch entry `i`. -/
theorem listOf_word (i j : ℕ) (hi : i < 16384) (hj : j < 26) : word (listOf A) (16384 * j + i) = A (idxAt S16384x26 size_arg_pos ![i, j]) := by
  unfold word listOf
  refine (shapeCast_apply _ _ _ (idxAt S26x16384 (by decide) ![j, i]) ?_).trans ?_
  · rw [Shape.rowMajor_val_two, Shape.rowMajor_val_one]
    show j % 26 * 16384 + i % 16384 = (16384 * j + i) % 425984
    omega
  · refine congrArg A (funext fun a => Fin.ext ?_)
    match a with
    | 0 => rfl
    | 1 => rfl

/-- Lane `k` of table row `r` is where the table of 128-entry rows has it. -/
theorem tableOf_entry (r k : ℕ) (hr : r < 1000000) (hk : k < 32) : entry (tableOf B) r k = B (idxAt S1000000x32 size_rows_pos ![r, k]) := by
  unfold entry pick tableOf
  refine shapeCast_apply _ _ _ _ ?_
  rw [Shape.rowMajor_val_two, Shape.rowMajor_val_two]
  show r % 1000000 * 32 + k % 32 = r / 4 % 250000 * 128 + (r % 4 * 32 + k) % 128
  omega

/-- If every index names a row, so does every entry of the list. -/
theorem listOf_inRange (hA : Named A) : InRange (listOf A) := fun j => hA _

/-- The program's output is the lookup. -/
theorem turned_lookup (hA : Named A) : turned (outOf (listOf A) (tableOf B)) = lookup A B := by
  funext y
  have h0 : (y 0).val < 16384 := (y 0).isLt
  have h1 : (y 1).val < 26 := (y 1).isLt
  have h2 : (y 2).val < 32 := (y 2).isLt
  show entry (tableOf B) (word (listOf A) (16384 * (y 1).val + (y 0).val)).toNat (y 2).val = _
  rw [listOf_word A _ _ h0 h1, tableOf_entry B _ _ (hA _) h2]
  rfl

end Cert.Proof.Lookup

end
-- ==== Proof.Reference.lean ====
/-
  The reference read at an index: where every index names a row, taking rows of the table along its first axis neither
  wraps an index nor fills an entry, and is the lookup.
-/
module

public import proofs.«01_k».proof.Proof.Meaning
public import proofs.«01_k».proof.Proof.Gen.ReferenceIdeal.Run

@[expose] public section

noncomputable section

namespace Cert.Proof.Lookup

open Cert.ReferenceIdeal Cert.ReferenceIdeal.Gen
open Idealize.ShloMosaic Idealize.SL.Sem

variable {F : FTy → Type} [FloatOps F]

variable (A : S16384x26.Idx → BitVec 32) (B : S1000000x32.Idx → Elt F .f32)

/-- A word below the number of rows is the same number signed. -/
theorem named_toInt {w : BitVec 32} (h : w.toNat < 1000000) : w.toInt = w.toNat := by
  rw [BitVec.toInt_eq_toNat_cond, if_pos (by omega)]

/-- The row indices as the reference prepares them: a negative one counted from the end. -/
def wrapped : S16384x26.Idx → BitVec 32 :=
  select (cmpi .slt A (broadcastInDim S16384x26 ![] bcast_S_S16384x26 (constantI S_ 32 0#32)))
    (addi A (broadcastInDim S16384x26 ![] bcast_S_S16384x26 (constantI S_ 32 1000000#32))) A

/-- No index is negative, so none is wrapped. -/
theorem wrapped_eq (hA : Named A) : wrapped A = A := by
  funext j
  have h := named_toInt (hA j)
  show (if IntOp.cmpi .slt (A j) 0#32 = 1#1 then _ else A j) = A j
  refine if_neg fun e => ?_
  have e := IntOp.cmpi_slt.1 e
  rw [h] at e
  simp at e
  omega

/-- The indices with an axis for the index vector. -/
def starts : S16384x26x1.Idx → BitVec 32 := broadcastInDim S16384x26x1 ![0, 1] bcast_S16384x26_S16384x26x1_0_1 (wrapped A)

/-- If every index names a row, so does every wrapped index. -/
theorem starts_named (hA : Named A) : ∀ i, (starts A i).toNat < 1000000 := by
  intro i
  unfold starts
  rw [wrapped_eq A hA]
  exact hA _

/-- Which indices lie in the table. -/
def within : S16384x26x1.Idx → BitVec 1 :=
  andi (cmpi .sge (starts A) (broadcastInDim S16384x26x1 ![] bcast_S_S16384x26x1 (constantI S_ 32 0#32)))
    (cmpi .sle (starts A) (broadcastInDim S16384x26x1 ![0, 1, 2] bcast_S1x1x1_S16384x26x1_0_1_2 (broadcastInDim S1x1x1 ![2] bcast_S1_S1x1x1_2 (constantI S1 32 999999#32))))

/-- All do. -/
theorem within_one (hA : Named A) : ∀ i, within A i = 1#1 := by
  intro i
  have hn := starts_named A hA i
  have h := named_toInt hn
  show IntOp.andi (IntOp.cmpi .sge (starts A i) 0#32) (IntOp.cmpi .sle (starts A i) 999999#32) = 1#1
  refine IntOp.andi_eq_one.2 ⟨IntOp.cmpi_sge.2 ?_, IntOp.cmpi_sle.2 ?_⟩
  · rw [h]; show (0 : ℤ) ≤ _; omega
  · rw [h]; show _ ≤ (999999 : ℤ); omega

/-- The rows gathered, at an index. -/
theorem gathered (hA : Named A) (y : S16384x26x32.Idx) :
    Host.gather gather_S1000000x32_S16384x26x1_S16384x26x32_2_0_n_n_0_2_132 B (starts A) y = lookup A B y := by
  unfold Host.gather lookup
  refine congrArg B (funext fun a => Fin.ext ?_)
  show GatherDims.start _ y (starts A) a + GatherDims.batchCoord _ y a + GatherDims.offCoord _ y a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S1000000x32_S16384x26x1_S16384x26x32_2_0_n_n_0_2_132.startIndexMap from List.mem_singleton.mpr rfl)]
    have hs : ∀ i : S16384x26x1.Idx, (i 0).val = (y 0).val → (i 1).val = (y 1).val →
        starts A i = A (idxAt S16384x26 size_arg_pos ![(y 0).val, (y 1).val]) := by
      intro i h0 h1
      unfold starts
      rw [wrapped_eq A hA]
      refine broadcastInDim_apply _ _ _ _ _ fun b => ?_
      match b with
      | 0 => exact (Nat.mod_eq_of_lt (y 0).isLt).trans h0.symm
      | 1 => exact (Nat.mod_eq_of_lt (y 1).isLt).trans h1.symm
    rw [hs _ rfl rfl, named_toInt (hA _)]
    show min (A _).toNat (1000000 - 1) + 0 + 0 = (A _).toNat % 1000000
    rw [Nat.mod_eq_of_lt (hA _)]
    exact Nat.min_eq_left (Nat.le_pred_of_lt (hA _))
  | 1 =>
    have hy : (y 2).val < 32 := (y 2).isLt
    unfold GatherDims.start
    rw [dif_neg (show (1 : Fin 2) ∉ gather_S1000000x32_S16384x26x1_S16384x26x32_2_0_n_n_0_2_132.startIndexMap from
      fun h => absurd (List.mem_singleton.mp h) (by decide))]
    show 0 + 0 + (y 2).val = (y 2).val % 32
    omega

/-- The reference's result is the lookup. -/
theorem taken (hA : Named A) (fill : S16384x26x32.Idx → Elt F .f32) :
    select (broadcastInDim S16384x26x32 ![0, 1] bcast_S16384x26_S16384x26x32_0_1
        (Host.reduce IntOp.andi (within A) (constantI S_ 1 1#1) reducesTo_S16384x26x1_S16384x26_d2 h_S_))
      (Host.gather gather_S1000000x32_S16384x26x1_S16384x26x32_2_0_n_n_0_2_132 B (starts A)) fill = lookup A B := by
  funext y
  rw [← gathered A B hA y]
  have hall : ∀ j, Host.reduce IntOp.andi (within A) (constantI S_ 1 1#1) reducesTo_S16384x26x1_S16384x26_d2 h_S_ j = 1#1 :=
    fun j => Host.reduce_andi_one (within A) _ _ _ j rfl (within_one A hA)
  unfold select Scalar.select
  refine if_pos ?_
  unfold broadcastInDim
  exact hall _

variable (m : (ℓ : Loc nD τ sig) → Buf (Elt F) ℓ) (ρ : Dev nD → PrngReg)

/-- The reference's run: its result the lookup, its arguments kept. -/
theorem reference_run (hA : ∀ d : Dev nD, Named (m ((d.tc : Thread nD τ).loc main_arg0))) :
    θ_run (defs (F := F)) (onTc (τ := τ) (main (F := F))) ⟨m, fun _ => 0, ρ⟩ fun r => ∀ d : Dev nD,
      r.2.mem ((d.tc : Thread nD τ).loc main_v0)
          = lookup (F := F) (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1) :=
  (θ_run (defs (F := F)) _ _).mono (fun _ h d => ⟨(h d).1.trans (taken _ _ (hA d) _), (h d).2⟩) (Cert.ReferenceIdeal.Value.run m ρ)

end Cert.Proof.Lookup

end
-- ==== Proof.lean ====
/-
  The proof of the claims: the kernel and its idealization run, leave their arguments as they were and every semaphore
  at zero; so does the reference; and at exact values the kernel's result is the reference's, the embedding lookup.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_indices_in_range
public import Idealize.ShloMosaic.Adequacy
public import Idealize.ShloMosaic.Init
public import Idealize.ShloMosaic.Lib.Quiescent
public import proofs.«01_k».proof.Proof.Reference

@[expose] public section

noncomputable section

namespace Cert.Proof

open Idealize.ShloMosaic Idealize.SL.Sem
open Cert.Proof.Lookup

/-- The precondition says that every index, read signed, is at least zero and below the number of rows; so as a number
    it is below it. -/
theorem named_of_pre {F : FTy → Type} [FloatOps F] (A : Cert.KernelIdeal.S16384x26.Idx → BitVec 32) (B : Cert.KernelIdeal.S1000000x32.Idx → Elt F .f32)
    (h : Cert.Pre_indices_in_range.fn (F := F) A B = fun _ => 1#1) : Named A := by
  intro j
  have : Subsingleton Cert.Pre_indices_in_range.S_.Idx := ⟨fun _ _ => funext fun a => a.elim0⟩
  have hj := Host.reduce_andi_all _ _ _ _ (fun a => a.elim0) (congrFun h fun a => a.elim0) j
  have hj : IntOp.andi (IntOp.cmpi .sge (A j) 0#32) (IntOp.cmpi .slt (A j) 1000000#32) = 1#1 := hj
  obtain ⟨h0, h1⟩ := IntOp.andi_eq_one.1 hj
  have h0 : (0 : ℤ) ≤ (A j).toInt := IntOp.cmpi_sge.1 h0
  have h1 : (A j).toInt < (1000000 : ℤ) := IntOp.cmpi_slt.1 h1
  have hlt := (A j).isLt
  rw [BitVec.toInt_eq_toNat_cond] at h0 h1
  split at h0 <;> omega

/-- The kernel's idealization, at every memory whose indices are in range: it runs, keeps its arguments, leaves every
    semaphore at zero and its result at the lookup. -/
theorem kernel_run {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (hA : ∀ c, Named (argX m c)) :
    θ_run (Cert.KernelIdeal.defs (F := F)) (Cert.KernelIdeal.threads (F := F)) ⟨m, fun _ => 0, g⟩ (QC m) :=
  run_main m g fun c => listOf_inRange _ (hA c)

/-- The kernel at the device's own values. -/
theorem frame_kernel : Cert.quiescent_Kernel := fun m g hpre =>
  (θ_run Cert.KernelIdeal.defs _ _).mono (fun _ h => ⟨fun c => ⟨(h.1 c).1, (h.1 c).2.1⟩, h.2⟩)
    (kernel_run (F := Bits) m g fun c => named_of_pre (F := Bits) _ _ (hpre c))

/-- The kernel at exact values. -/
theorem frame_ideal : Cert.quiescent_KernelIdeal := fun m g hpre =>
  (θ_run Cert.KernelIdeal.defs _ _).mono (fun _ h => ⟨fun c => ⟨(h.1 c).1, (h.1 c).2.1⟩, h.2⟩)
    (kernel_run (F := Ideal) m g fun c => named_of_pre (F := Ideal) _ _ (hpre c))

/-- The reference at exact values, from any memory: it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same where the indices are in range. -/
theorem frame_reference_pre : Cert.quiescent_ReferenceIdeal_pre_indices_in_range := fun m g _ => frame_reference m g trivial

/-- At exact values both results are the lookup. -/
theorem equal : Cert.algebraic_KernelIdeal_ReferenceIdeal := by
  intro m g m' g' hpre hagree
  have hA : ∀ c, Named (argX m c) := fun c => named_of_pre (F := Ideal) _ _ (hpre c)
  refine ⟨fun c => lookup (F := Ideal) (argX m c) (argW m c), ?_, ?_⟩
  · exact (θ_run Cert.KernelIdeal.defs _ _).mono
      (fun _ h c => ⟨(h.1 c).2.2.trans (turned_lookup _ _ (hA c)), (h.1 c).1, (h.1 c).2.1⟩) (kernel_run (F := Ideal) m g hA)
  · refine (θ_run Cert.ReferenceIdeal.defs _ _).mono (fun _ h c => ⟨(h c).1.trans ?_, (h c).2⟩)
      (reference_run (F := Ideal) m' g' fun c => by rw [(hagree c).1]; exact hA c)
    rw [(hagree c).1, (hagree c).2]

/-- All the claims. -/
theorem claim : Cert.Claim := ⟨Cert.Kernel.Gen.facts, Cert.KernelIdeal.Gen.facts, Cert.ReferenceIdeal.Gen.facts, Cert.Pre_indices_in_range.Gen.facts,
  frame_kernel, frame_ideal, frame_reference, frame_reference_pre, trivial, equal⟩

end Cert.Proof

end
